-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_merge [hPre_finite_merge : Cert.Pre_finite_merge.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_merge.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_merge [hPre_finite_merge : Cert.Pre_finite_merge.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_merge.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_merge [hKernel2Ideal : Cert.Kernel2Ideal.Facts] [hPre_finite_merge : Cert.Pre_finite_merge.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_merge m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_merge [hReference2Ideal : Cert.Reference2Ideal.Facts] [hPre_finite_merge : Cert.Pre_finite_merge.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_merge m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_merge [hKernel2Ideal : Cert.Kernel2Ideal.Facts] [hReference2Ideal : Cert.Reference2Ideal.Facts] [hPre_finite_merge : Cert.Pre_finite_merge.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_merge m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_v56) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_merge : Cert.Pre_finite_merge.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_merge (hKernel2Ideal := hKernel2Ideal) (hPre_finite_merge := hPre_finite_merge)
    ∧ quiescent_Reference2Ideal (hReference2Ideal := hReference2Ideal)
    ∧ quiescent_Reference2Ideal_pre_finite_merge (hReference2Ideal := hReference2Ideal) (hPre_finite_merge := hPre_finite_merge)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_merge (hKernel2Ideal := hKernel2Ideal) (hReference2Ideal := hReference2Ideal) (hPre_finite_merge := hPre_finite_merge)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4096x8x64 : Shape := ⟨3, ![4096, 8, 64]⟩
abbrev S4096x2x64 : Shape := ⟨3, ![4096, 2, 64]⟩
abbrev S4096x512 : Shape := ⟨2, ![4096, 512]⟩
abbrev S_ : Shape := ⟨0, ![]⟩

class Facts : Prop where
  bcast_S_S4096x8x64 : S_.BroadcastsInDim S4096x8x64 (![] : Fin 0 → Fin S4096x8x64.rank)
  reducesTo_S4096x8x64_S_d0_1_2 : S4096x8x64.ReducesTo [0, 1, 2] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x8x64 .f32) (main_arg1 : FVec F S4096x2x64 .f32) (main_arg2 : FVec F S4096x2x64 .f32) (main_arg3 : FVec F S4096x512 .f32) : IVec S_ 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_c : IVec S_ 1 := constantI S_ 1 1#1
  let main_v3 : IVec S_ 1 := (fun x v => Host.reduce IntOp.andi x v reducesTo_S4096x8x64_S_d0_1_2 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  let main_v9 : FVec F S4096x2x64 .f32 := Host.absf main_arg2
  let main_cst_2 : FVec F S_ .f32 := constant S_ .f32 0x7F800000#32
  let main_v10 : FVec F S4096x2x64 .f32 := broadcastInDim S4096x2x64 ![] bcast_S_S4096x2x64 main_cst_2
  let main_v11 : IVec S4096x2x64 1 := cmpf .olt main_v9 main_v10
  let main_c_3 : IVec S_ 1 := constantI S_ 1 1#1
  let main_v12 : IVec S_ 1 := (fun x v => Host.reduce IntOp.andi x v reducesTo_S4096x2x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite_merge.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg7 : FVec F S1024x1024 .f32) (main_arg8 : FVec F S4096x1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024x1024 .f32 := Host.absf main_arg7
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096x1024 .f32 := Host.absf main_arg8
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S4096x2048 .f32) (main_arg3 : FVec F S4096x512 .f32) (main_arg4 : FVec F S4096x512 .f32) (main_arg5 : FVec F S512x1024 .f32) (main_arg6 : FVec F S512x1024 .f32) (main_arg7 : FVec F S1024x1024 .f32) (main_arg8 : FVec F S4096x1024 .f32) : IVec S_ 1 :=
  let main_v0 : FVec F S4096x512 .f32 := Host.absf main_arg3
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg4
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x1024 .f32 := Host.absf main_arg5
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x1024 .f32 := Host.absf main_arg6
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg7 main_arg8 main_v13 main_v16
-- ==== Kernel.lean ====
abbrev S4096x8x64 : Shape := ⟨3, ![4096, 8, 64]⟩
abbrev S4096x2x64 : Shape := ⟨3, ![4096, 2, 64]⟩
abbrev S4096x512 : Shape := ⟨2, ![4096, 512]⟩
abbrev S_ : Shape := ⟨0, ![]⟩
abbrev S2x4096x64 : Shape := ⟨3, ![2, 4096, 64]⟩
abbrev S8x4096x64 : Shape := ⟨3, ![8, 4096, 64]⟩
abbrev S8x64x4096 : Shape := ⟨3, ![8, 64, 4096]⟩
abbrev S4096x2x4x64 : Shape := ⟨4, ![4096, 2, 4, 64]⟩
abbrev S2x4096x4096x4 : Shape := ⟨4, ![2, 4096, 4096, 4]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S8x1x4096 : Shape := ⟨3, ![8, 1, 4096]⟩
abbrev S2x64x4096 : Shape := ⟨3, ![2, 64, 4096]⟩
abbrev S2x1024x64 : Shape := ⟨3, ![2, 1024, 64]⟩
abbrev S2x64x1024 : Shape := ⟨3, ![2, 64, 1024]⟩
abbrev S1x4096x64 : Shape := ⟨3, ![1, 4096, 64]⟩
abbrev S1024x128 : Shape := ⟨2, ![1024, 128]⟩
abbrev S2x1x1024 : Shape := ⟨3, ![2, 1, 1024]⟩
abbrev S1x64x4096 : Shape := ⟨3, ![1, 64, 4096]⟩
abbrev S128x1024 : Shape := ⟨2, ![128, 1024]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S1024 : Shape := ⟨1, ![1024]⟩
abbrev S1024x1 : Shape := ⟨2, ![1024, 1]⟩
abbrev S1024x512 : Shape := ⟨2, ![1024, 512]⟩
abbrev S1x1x1024 : Shape := ⟨3, ![1, 1, 1024]⟩
abbrev S1x1024 : Shape := ⟨2, ![1, 1024]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩

abbrev nBuf : Space → Nat
  | .hbm => 58
  | .vmem => 20
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S4096x512, .f32⟩
  | .hbm, ⟨4, _⟩ => ⟨S_, .f32⟩
  | .hbm, ⟨5, _⟩ => ⟨S4096x8x64, .f32⟩
  | .hbm, ⟨6, _⟩ => ⟨S4096x8x64, .f32⟩
  | .hbm, ⟨7, _⟩ => ⟨S4096x8x64, .bf16⟩
  | .hbm, ⟨8, _⟩ => ⟨S4096x2x64, .bf16⟩
  | .hbm, ⟨9, _⟩ => ⟨S2x4096x64, .bf16⟩
  | .hbm, ⟨10, _⟩ => ⟨S4096x2x64, .bf16⟩
  | .hbm, ⟨11, _⟩ => ⟨S2x4096x64, .bf16⟩
  | .hbm, ⟨12, _⟩ => ⟨S8x4096x64, .bf16⟩
  | .hbm, ⟨13, _⟩ => ⟨S8x64x4096, .bf16⟩
  | .hbm, ⟨14, _⟩ => ⟨S4096x2x4x64, .f32⟩
  | .hbm, ⟨15, _⟩ => ⟨S2x4096x4096x4, .f32⟩
  | .hbm, ⟨16, _⟩ => ⟨S2x4x4096x4096, .f32⟩
  | .hbm, ⟨17, _⟩ => ⟨S_, .f32⟩
  | .hbm, ⟨18, _⟩ => ⟨S2x4x4096x4096, .f32⟩
  | .hbm, ⟨19, _⟩ => ⟨S2x4x4096x4096, .f32⟩
  | .hbm, ⟨20, _⟩ => ⟨S_, .f32⟩
  | .hbm, ⟨21, _⟩ => ⟨S2x4x4096, .f32⟩
  | .hbm, ⟨22, _⟩ => ⟨S_, .f32⟩
  | .hbm, ⟨23, _⟩ => ⟨S2x4x4096, .f32⟩
  | .hbm, ⟨24, _⟩ => ⟨S2x4x4096, .f32⟩
  | .hbm, ⟨25, _⟩ => ⟨S2x4x4096x1, .f32⟩
  | .hbm, ⟨26, _⟩ => ⟨S2x4x4096x4096, .f32⟩
  | .hbm, ⟨27, _⟩ => ⟨S2x4x4096x4096, .f32⟩
  | .hbm, ⟨28, _⟩ => ⟨S2x4x4096x4096, .f32⟩
  | .hbm, ⟨29, _⟩ => ⟨S_, .f32⟩
  | .hbm, ⟨30, _⟩ => ⟨S2x4x4096, .f32⟩
  | .hbm, ⟨31, _⟩ => ⟨S2x4x4096x1, .f32⟩
  | .hbm, ⟨32, _⟩ => ⟨S2x4x4096x4096, .f32⟩
  | .hbm, ⟨33, _⟩ => ⟨S2x4x4096x4096, .f32⟩
  | .hbm, ⟨34, _⟩ => ⟨S2x64x4x4096, .f32⟩
  | .hbm, ⟨35, _⟩ => ⟨S4096x2x4x64, .f32⟩
  | .hbm, ⟨36, _⟩ => ⟨S4096x512, .f32⟩
  | .hbm, ⟨37, _⟩ => ⟨S4096x2x4x64, .f32⟩
  | .hbm, ⟨38, _⟩ => ⟨S2x4096x4096x4, .f32⟩
  | .hbm, ⟨39, _⟩ => ⟨S2x4x4096x4096, .f32⟩
  | .hbm, ⟨40, _⟩ => ⟨S_, .f32⟩
  | .hbm, ⟨41, _⟩ => ⟨S2x4x4096x4096, .f32⟩
  | .hbm, ⟨42, _⟩ => ⟨S2x4x4096x4096, .f32⟩
  | .hbm, ⟨43, _⟩ => ⟨S_, .f32⟩
  | .hbm, ⟨44, _⟩ => ⟨S2x4x4096, .f32⟩
  | .hbm, ⟨45, _⟩ => ⟨S2x4x4096x1, .f32⟩
  | .hbm, ⟨46, _⟩ => ⟨S2x4x4096x4096, .f32⟩
  | .hbm, ⟨47, _⟩ => ⟨S2x4x4096x4096, .f32⟩
  | .hbm, ⟨48, _⟩ => ⟨S2x4x4096x4096, .f32⟩
  | .hbm, ⟨49, _⟩ => ⟨S_, .f32⟩
  | .hbm, ⟨50, _⟩ => ⟨S2x4x4096, .f32⟩
  | .hbm, ⟨51, _⟩ => ⟨S2x4x4096x1, .f32⟩
  | .hbm, ⟨52, _⟩ => ⟨S2x4x4096x1, .f32⟩
  | .hbm, ⟨53, _⟩ => ⟨S2x4x4096x1, .f32⟩
  | .hbm, ⟨54, _⟩ => ⟨S8x1x4096, .f32⟩
  | .hbm, ⟨55, _⟩ => ⟨S4096x512, .f32⟩
  | .hbm, ⟨56, _⟩ => ⟨S2x64x4096, .f32⟩
  | .hbm, ⟨57, _⟩ => ⟨S2x64x4096, .f32⟩
  | .local _ .vmem, ⟨0, _⟩ => ⟨S2x1024x64, .bf16⟩
  | .local _ .vmem, ⟨1, _⟩ => ⟨S2x1024x64, .bf16⟩
  | .local _ .vmem, ⟨2, _⟩ => ⟨S2x64x1024, .bf16⟩
  | .local _ .vmem, ⟨3, _⟩ => ⟨S2x64x1024, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x4096x64, .bf16⟩
  | .local _ .vmem, ⟨7, _⟩ => ⟨S1x4096x64, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S2x1x1024, .f32⟩
  | .local _ .vmem, ⟨13, _⟩ => ⟨S2x1x1024, .f32⟩
  | .local _ .vmem, ⟨14, _⟩ => ⟨S1024x128, .f32⟩
  | .local _ .vmem, ⟨15, _⟩ => ⟨S1024x128, .f32⟩
  | .local _ .vmem, ⟨16, _⟩ => ⟨S1x64x4096, .f32⟩
  | .local _ .vmem, ⟨17, _⟩ => ⟨S1x64x4096, .f32⟩
  | .local _ .vmem, ⟨18, _⟩ => ⟨S1x64x4096, .f32⟩
  | .local _ .vmem, ⟨19, _⟩ => ⟨S1x64x4096, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S2x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x8x64 : Shape := ⟨3, ![4096, 8, 64]⟩
abbrev S4096x2x64 : Shape := ⟨3, ![4096, 2, 64]⟩
abbrev S4096x512 : Shape := ⟨2, ![4096, 512]⟩
abbrev S4096x2x4x64 : Shape := ⟨4, ![4096, 2, 4, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩

abbrev nBuf : Space → Nat
  | .hbm => 82
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x2x64, .f32⟩
  | .hbm, ⟨3, _⟩ => ⟨S4096x512, .f32⟩
  | .hbm, ⟨4, _⟩ => ⟨S4096x2x4x64, .f32⟩
  | .hbm, ⟨5, _⟩ => ⟨S2x4096x4096x4, .f32⟩
  | .hbm, ⟨6, _⟩ => ⟨S2x4x4096x4096, .f32⟩
  | .hbm, ⟨7, _⟩ => ⟨S_, .f32⟩
  | .hbm, ⟨8, _⟩ => ⟨S2x4x4096x4096, .f32⟩
  | .hbm, ⟨9, _⟩ => ⟨S2x4x4096x4096, .f32⟩
  | .hbm, ⟨10, _⟩ => ⟨S_, .f32⟩
  | .hbm, ⟨11, _⟩ => ⟨S2x4x4096, .f32⟩
  | .hbm, ⟨12, _⟩ => ⟨S2x4x4096x1, .f32⟩
  | .hbm, ⟨13, _⟩ => ⟨S2x4x4096x4096, .f32⟩
  | .hbm, ⟨14, _⟩ => ⟨S2x4x4096x4096, .i1⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S_, .f32⟩
  | .hbm, ⟨19, _⟩ => ⟨S2x4x4096, .f32⟩
  | .hbm, ⟨20, _⟩ => ⟨S2x4x4096, .f32⟩
  | .hbm, ⟨21, _⟩ => ⟨S_, .f32⟩
  | .hbm, ⟨22, _⟩ => ⟨S2x4x4096, .f32⟩
  | .hbm, ⟨23, _⟩ => ⟨S2x4x4096, .i1⟩
  | .hbm, ⟨24, _⟩ => ⟨S_, .f32⟩
  | .hbm, ⟨25, _⟩ => ⟨S2x4x4096, .f32⟩
  | .hbm, ⟨26, _⟩ => ⟨S2x4x4096, .i1⟩
  | .hbm, ⟨27, _⟩ => ⟨S_, .f32⟩
  | .hbm, ⟨28, _⟩ => ⟨S2x4x4096, .f32⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S2x4x4096, .f32⟩
  | .hbm, ⟨34, _⟩ => ⟨S2x4x4096, .f32⟩
  | .hbm, ⟨35, _⟩ => ⟨S2x4x4096x1, .f32⟩
  | .hbm, ⟨36, _⟩ => ⟨S2x4x4096x4096, .f32⟩
  | .hbm, ⟨37, _⟩ => ⟨S2x4x4096x4096, .f32⟩
  | .hbm, ⟨38, _⟩ => ⟨S2x4x4096x4096, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S2x4x4096x4096, .f32⟩
  | .hbm, ⟨43, _⟩ => ⟨S2x4x4096x4096, .f32⟩
  | .hbm, ⟨44, _⟩ => ⟨S2x4x4096x1, .f32⟩
  | .hbm, ⟨45, _⟩ => ⟨S_, .f32⟩
  | .hbm, ⟨46, _⟩ => ⟨S2x4x4096x1, .f32⟩
  | .hbm, ⟨47, _⟩ => ⟨S2x4x4096x1, .f32⟩
  | .hbm, ⟨48, _⟩ => ⟨S2x64x4x4096, .f32⟩
  | .hbm, ⟨49, _⟩ => ⟨S4096x2x4x64, .f32⟩
  | .hbm, ⟨50, _⟩ => ⟨S4096x512, .f32⟩
  | .hbm, ⟨51, _⟩ => ⟨S4096x2x4x64, .f32⟩
  | .hbm, ⟨52, _⟩ => ⟨S2x64x4x4096, .f32⟩
  | .hbm, ⟨53, _⟩ => ⟨S2x4x4096x4096, .f32⟩
  | .hbm, ⟨54, _⟩ => ⟨S2x64x4096, .f32⟩
  | .hbm, ⟨55, _⟩ => ⟨S4096x2x64, .f32⟩
  | .hbm, ⟨56, _⟩ => ⟨S2x4x4096x4096, .f32⟩
  | .hbm, ⟨57, _⟩ => ⟨S2x4x4096x4096, .f32⟩
  | .hbm, ⟨58, _⟩ => ⟨S2x4x4096x4096, .f32⟩
  | .hbm, ⟨59, _⟩ => ⟨S_, .f32⟩
  | .hbm, ⟨60, _⟩ => ⟨S2x4x4096, .f32⟩
  | .hbm, ⟨61, _⟩ => ⟨S2x4x4096x1, .f32⟩
  | .hbm, ⟨62, _⟩ => ⟨S2x4x4096x1, .f32⟩
  | .hbm, ⟨63, _⟩ => ⟨S2x4x4096x4096, .f32⟩
  | .hbm, ⟨64, _⟩ => ⟨S2x4x4096x4096, .f32⟩
  | .hbm, ⟨65, _⟩ => ⟨S_, .f32⟩
  | .hbm, ⟨66, _⟩ => ⟨S2x4x4096, .f32⟩
  | .hbm, ⟨67, _⟩ => ⟨S2x4x4096x4096, .f32⟩
  | .hbm, ⟨68, _⟩ => ⟨S2x4x4096x4096, .f32⟩
  | .hbm, ⟨69, _⟩ => ⟨S2x4x4096x4096, .f32⟩
  | .hbm, ⟨70, _⟩ => ⟨S_, .f32⟩
  | .hbm, ⟨71, _⟩ => ⟨S2x4x4096x4096, .f32⟩
  | .hbm, ⟨72, _⟩ => ⟨S2x4x4096x4096, .f32⟩
  | .hbm, ⟨73, _⟩ => ⟨S2x4096x4096x4, .f32⟩
  | .hbm, ⟨74, _⟩ => ⟨S2x4096x4x64, .f32⟩
  | .hbm, ⟨75, _⟩ => ⟨S4096x2x4x64, .f32⟩
  | .hbm, ⟨76, _⟩ => ⟨S2x4096x64, .f32⟩
  | .hbm, ⟨77, _⟩ => ⟨S4096x2x64, .f32⟩
  | .hbm, ⟨78, _⟩ => ⟨S4096x8x64, .f32⟩
  | .hbm, ⟨79, _⟩ => ⟨S4096x512, .f32⟩
  | .hbm, ⟨80, _⟩ => ⟨S2x64x4096, .f32⟩
  | .hbm, ⟨81, _⟩ => ⟨S2x64x4096, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel2.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S_ : Shape := ⟨0, ![]⟩
abbrev S4096x1536 : Shape := ⟨2, ![4096, 1536]⟩
abbrev S4096x256 : Shape := ⟨2, ![4096, 256]⟩
abbrev S4096x5376 : Shape := ⟨2, ![4096, 5376]⟩
abbrev S1024x512 : Shape := ⟨2, ![1024, 512]⟩
abbrev S4096x3072 : Shape := ⟨2, ![4096, 3072]⟩
abbrev S256x1024 : Shape := ⟨2, ![256, 1024]⟩
abbrev S256x512 : Shape := ⟨2, ![256, 512]⟩
abbrev S256x3072 : Shape := ⟨2, ![256, 3072]⟩

abbrev nBuf : Space → Nat
  | .hbm => 50
  | .vmem => 30
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096x512, .f32⟩
  | .hbm, ⟨11, _⟩ => ⟨S_, .f32⟩
  | .hbm, ⟨12, _⟩ => ⟨S4096x1536, .f32⟩
  | .hbm, ⟨13, _⟩ => ⟨S_, .f32⟩
  | .hbm, ⟨14, _⟩ => ⟨S4096x256, .f32⟩
  | .hbm, ⟨15, _⟩ => ⟨S4096x5376, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x1024, .f32⟩
  | .hbm, ⟨27, _⟩ => ⟨S4096x1024, .bf16⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x1024, .bf16⟩
  | .hbm, ⟨40, _⟩ => ⟨S1024x512, .f32⟩
  | .hbm, ⟨41, _⟩ => ⟨S1024x512, .f32⟩
  | .hbm, ⟨42, _⟩ => ⟨S1024x1024, .f32⟩
  | .hbm, ⟨43, _⟩ => ⟨S1024x1024, .bf16⟩
  | .hbm, ⟨44, _⟩ => ⟨S1024x1024, .bf16⟩
  | .hbm, ⟨45, _⟩ => ⟨S4096x512, .f32⟩
  | .hbm, ⟨46, _⟩ => ⟨S4096x512, .f32⟩
  | .hbm, ⟨47, _⟩ => ⟨S4096x3072, .bf16⟩
  | .hbm, ⟨48, _⟩ => ⟨S1024x1024, .bf16⟩
  | .hbm, ⟨49, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x3072, .bf16⟩
  | .local _ .vmem, ⟨25, _⟩ => ⟨S256x3072, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .f32⟩
  | .local _ .vmem, ⟨29, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17_0 : Ref sig .tc := ⟨.hbm, 45, rfl⟩
abbrev main_v17_1 : Ref sig .tc := ⟨.hbm, 46, rfl⟩
abbrev main_v17_2 : Ref sig .tc := ⟨.hbm, 47, rfl⟩
abbrev main_v17_3 : Ref sig .tc := ⟨.hbm, 48, rfl⟩
abbrev main_v17_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v128 : BitVec 1 := Scalar.cmpi .eq arg0 c15_i32
  let v129 : BitVec 32 := Scalar.extui v128
  let c0_i32_68 : BitVec 32 := 0#32
  let v130 : BitVec 1 := Scalar.cmpi .ne v129 c0_i32_68
  v130

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S_ : Shape := ⟨0, ![]⟩
abbrev S4096x2x1024 : Shape := ⟨3, ![4096, 2, 1024]⟩
abbrev S4096x1x1024 : Shape := ⟨3, ![4096, 1, 1024]⟩
abbrev S1024x512 : Shape := ⟨2, ![1024, 512]⟩
abbrev S4096x3072 : Shape := ⟨2, ![4096, 3072]⟩

abbrev nBuf : Space → Nat
  | .hbm => 101
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x1024, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2x1024, .f32⟩
  | .hbm, ⟨52, _⟩ => ⟨S4096x1x1024, .f32⟩
  | .hbm, ⟨53, _⟩ => ⟨S4096x1024, .f32⟩
  | .hbm, ⟨54, _⟩ => ⟨S4096x1024, .f32⟩
  | .hbm, ⟨55, _⟩ => ⟨S4096x1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1024x1024, .f32⟩
  | .hbm, ⟨61, _⟩ => ⟨S1024x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1x1024, .f32⟩
  | .hbm, ⟨66, _⟩ => ⟨S_, .f32⟩
  | .hbm, ⟨67, _⟩ => ⟨S4096x2x1024, .f32⟩
  | .hbm, ⟨68, _⟩ => ⟨S4096x1024, .f32⟩
  | .hbm, ⟨69, _⟩ => ⟨S4096x1024, .f32⟩
  | .hbm, ⟨70, _⟩ => ⟨S4096x1x1024, .f32⟩
  | .hbm, ⟨71, _⟩ => ⟨S_, .f32⟩
  | .hbm, ⟨72, _⟩ => ⟨S4096x2x1024, .f32⟩
  | .hbm, ⟨73, _⟩ => ⟨S4096x2x1024, .f32⟩
  | .hbm, ⟨74, _⟩ => ⟨S4096x2048, .f32⟩
  | .hbm, ⟨75, _⟩ => ⟨S4096x2048, .f32⟩
  | .hbm, ⟨76, _⟩ => ⟨S1024x512, .f32⟩
  | .hbm, ⟨77, _⟩ => ⟨S512x1024, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S1024x512, .f32⟩
  | .hbm, ⟨86, _⟩ => ⟨S512x1024, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x3072, .f32⟩
  | .hbm, ⟨95, _⟩ => ⟨S4096x3072, .bf16⟩
  | .hbm, ⟨96, _⟩ => ⟨S1024x1024, .bf16⟩
  | .hbm, ⟨97, _⟩ => ⟨S1024x512, .f32⟩
  | .hbm, ⟨98, _⟩ => ⟨S1024x512, .f32⟩
  | .hbm, ⟨99, _⟩ => ⟨S1024x1024, .f32⟩
  | .hbm, ⟨100, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v0_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v0_1 : Ref sig .tc := ⟨.hbm, 20, rfl⟩
abbrev main_v0_0 : Ref sig .tc := ⟨.hbm, 21, rfl⟩
abbrev main_v1 : Ref sig .tc := ⟨.hbm, 22, rfl⟩
abbrev main_v2 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v3_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v3_1 : Ref sig .tc := ⟨.hbm, 35, rfl⟩
abbrev main_v3_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_cst_0 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_2 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x5376 : Shape := ⟨2, ![1024, 5376]⟩
abbrev S4096x5376 : Shape := ⟨2, ![4096, 5376]⟩
abbrev S1x1024 : Shape := ⟨2, ![1, 1024]⟩
abbrev S5376x1024 : Shape := ⟨2, ![5376, 1024]⟩
abbrev S4096x768 : Shape := ⟨2, ![4096, 768]⟩
abbrev S4096x512 : Shape := ⟨2, ![4096, 512]⟩
abbrev S4096x2560 : Shape := ⟨2, ![4096, 2560]⟩
abbrev S4096x3072 : Shape := ⟨2, ![4096, 3072]⟩
abbrev S256x1024 : Shape := ⟨2, ![256, 1024]⟩
abbrev S256x768 : Shape := ⟨2, ![256, 768]⟩
abbrev S256x3072 : Shape := ⟨2, ![256, 3072]⟩
abbrev S256x512 : Shape := ⟨2, ![256, 512]⟩
abbrev S8x1024 : Shape := ⟨2, ![8, 1024]⟩
abbrev S768x1024 : Shape := ⟨2, ![768, 1024]⟩
abbrev S512x1024 : Shape := ⟨2, ![512, 1024]⟩
abbrev S256x2560 : Shape := ⟨2, ![256, 2560]⟩
abbrev S2560x1024 : Shape := ⟨2, ![2560, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5376, .f32⟩
  | .hbm, ⟨3, _⟩ => ⟨S4096x1024, .f32⟩
  | .hbm, ⟨4, _⟩ => ⟨S4096x5376, .f32⟩
  | .hbm, ⟨5, _⟩ => ⟨S1x1024, .f32⟩
  | .hbm, ⟨6, _⟩ => ⟨S5376x1024, .f32⟩
  | .hbm, ⟨7, _⟩ => ⟨S5376x1024, .bf16⟩
  | .hbm, ⟨8, _⟩ => ⟨S4096x5376, .bf16⟩
  | .hbm, ⟨9, _⟩ => ⟨S4096x768, .bf16⟩
  | .hbm, ⟨10, _⟩ => ⟨S4096x512, .bf16⟩
  | .hbm, ⟨11, _⟩ => ⟨S4096x2560, .bf16⟩
  | .hbm, ⟨12, _⟩ => ⟨S4096x3072, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S5376x1024, .bf16⟩
  | .local _ .vmem, ⟨6, _⟩ => ⟨S256x768, .bf16⟩
  | .local _ .vmem, ⟨7, _⟩ => ⟨S256x768, .bf16⟩
  | .local _ .vmem, ⟨8, _⟩ => ⟨S256x3072, .bf16⟩
  | .local _ .vmem, ⟨9, _⟩ => ⟨S256x3072, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v76 : BitVec 1 := Scalar.cmpi .eq arg0 c15_i32
  let v77 : BitVec 32 := Scalar.extui v76
  let c0_i32_42 : BitVec 32 := 0#32
  let v78 : BitVec 1 := Scalar.cmpi .ne v77 c0_i32_42
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5376x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x1024 : Shape := ⟨2, ![4096, 1024]⟩
abbrev S1024 : Shape := ⟨1, ![1024]⟩
abbrev S1024x5376 : Shape := ⟨2, ![1024, 5376]⟩
abbrev S4096x5376 : Shape := ⟨2, ![4096, 5376]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5376, .f32⟩
  | .hbm, ⟨3, _⟩ => ⟨S4096x1024, .f32⟩
  | .hbm, ⟨4, _⟩ => ⟨S4096x5376, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5376, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S4096x5376 : Shape := ⟨2, ![4096, 5376]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S4096x768 : Shape := ⟨2, ![4096, 768]⟩
abbrev S4096x512 : Shape := ⟨2, ![4096, 512]⟩
abbrev S4096x2560 : Shape := ⟨2, ![4096, 2560]⟩
abbrev S4096x3072 : Shape := ⟨2, ![4096, 3072]⟩
abbrev S5376x1024 : Shape := ⟨2, ![5376, 1024]⟩
abbrev S4096x256 : Shape := ⟨2, ![4096, 256]⟩
abbrev S256x1024 : Shape := ⟨2, ![256, 1024]⟩
abbrev S1024x256 : Shape := ⟨2, ![1024, 256]⟩

abbrev nBuf : Space → Nat
  | .hbm => 30
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x5376, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S4096x5376, .bf16⟩
  | .hbm, ⟨22, _⟩ => ⟨S4096x768, .bf16⟩
  | .hbm, ⟨23, _⟩ => ⟨S4096x512, .bf16⟩
  | .hbm, ⟨24, _⟩ => ⟨S4096x2560, .bf16⟩
  | .hbm, ⟨25, _⟩ => ⟨S4096x3072, .bf16⟩
  | .hbm, ⟨26, _⟩ => ⟨S4096x512, .bf16⟩
  | .hbm, ⟨27, _⟩ => ⟨S4096x512, .bf16⟩
  | .hbm, ⟨28, _⟩ => ⟨S4096x512, .bf16⟩
  | .hbm, ⟨29, _⟩ => ⟨S5376x1024, .bf16⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S256x1024, .bf16⟩
  | .local _ .vmem, ⟨12, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c5_i32 : BitVec 32 := 5#32
  let v6 : BitVec 1 := Scalar.cmpi .slt arg0 c5_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c5_i32_3 : BitVec 32 := 5#32
  let v10 : BitVec 1 := Scalar.cmpi .sge arg0 c5_i32_3
  let c7_i32 : BitVec 32 := 7#32
  let v11 : BitVec 1 := Scalar.cmpi .slt arg0 c7_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c7_i32_5 : BitVec 32 := 7#32
  let v15 : BitVec 1 := Scalar.cmpi .sge arg0 c7_i32_5
  let c9_i32 : BitVec 32 := 9#32
  let v16 : BitVec 1 := Scalar.cmpi .slt arg0 c9_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c9_i32_7 : BitVec 32 := 9#32
  let v20 : BitVec 1 := Scalar.cmpi .sge arg0 c9_i32_7
  let c11_i32 : BitVec 32 := 11#32
  let v21 : BitVec 1 := Scalar.cmpi .slt arg0 c11_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c11_i32_9 : BitVec 32 := 11#32
  let v25 : BitVec 1 := Scalar.cmpi .sge arg0 c11_i32_9
  let c21_i32 : BitVec 32 := 21#32
  let v26 : BitVec 1 := Scalar.cmpi .slt arg0 c21_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let v3 : BitVec 32 := Scalar.addi c0_i32_1 v2
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c11_i32 : BitVec 32 := 11#32
  let v4 : BitVec 1 := Scalar.cmpi .sge arg0 c11_i32
  let c11_i32_1 : BitVec 32 := 11#32
  let v5 : BitVec 32 := Scalar.subi arg0 c11_i32_1
  let c0_i32_2 : BitVec 32 := 0#32
  let c9_i32 : BitVec 32 := 9#32
  let v6 : BitVec 32 := Scalar.maxsi c0_i32_2 v5
  let v7 : BitVec 32 := Scalar.minsi c9_i32 v6
  let c2_i32 : BitVec 32 := 2#32
  let v8 : BitVec 32 := Scalar.addi c2_i32 v7
  let v9 : BitVec 32 := Scalar.select v4 v8 v3
  let c0_i32_3 : BitVec 32 := 0#32
  let c0_i32_4 : BitVec 32 := 0#32
  ![c0_i32_3.toNat, v9.toNat]

def cc0_transform_3 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x1024 : Shape := ⟨2, ![4096, 1024]⟩
abbrev S1024 : Shape := ⟨1, ![1024]⟩
abbrev S4096x5376 : Shape := ⟨2, ![4096, 5376]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5376 : Shape := ⟨2, ![1024, 5376]⟩
abbrev S5376x1024 : Shape := ⟨2, ![5376, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x5376, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1024x5376, .f32⟩
  | .hbm, ⟨21, _⟩ => ⟨S4096x5376, .f32⟩
  | .hbm, ⟨22, _⟩ => ⟨S5376x1024, .f32⟩
  | .hbm, ⟨23, _⟩ => ⟨S1024x5376, .f32⟩
  | .hbm, ⟨24, _⟩ => ⟨S5376x1024, .f32⟩
  | .hbm, ⟨25, _⟩ => ⟨S5376x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Softmax.lean ====
/- The mathematics of a softmax row and of its gradient, over the real numbers: what a row of attention weights is
   whatever number was subtracted before the exponential, and the two ways of writing the gradient. -/
module

public import Idealize.ShloMosaic.PureOps.Ideal
public import Mathlib.Analysis.SpecialFunctions.Log.Basic
public import Mathlib.Data.EReal.Operations

@[expose] public section

noncomputable section

namespace Cert.Attn

open Idealize.ShloMosaic

/-! ### Finite extended reals -/

/-- A sum of numbers, read as an extended real, is the sum of the extended reals. -/
theorem coe_sum {ι : Type*} (A : Finset ι) (f : ι → ℝ) : ((∑ i ∈ A, f i : ℝ) : EReal) = ∑ i ∈ A, (f i : EReal) := by
  classical
  induction A using Finset.induction_on with
  | empty => simp
  | insert a A h ih => rw [Finset.sum_insert h, Finset.sum_insert h, EReal.coe_add, ih]

/-- The quotient of two numbers, off zero. -/
theorem div_coe_coe (a : ℝ) {b : ℝ} (h : b ≠ 0) : Ideal.div (a : EReal) (b : EReal) = ((a / b : ℝ) : EReal) := by
  rw [Ideal.div_coe h, ← EReal.coe_mul]; congr 1; ring

/-- The largest of at least one number, from −∞, is a number. -/
theorem fold_max_real {n : ℕ} (hn : 0 < n) (f : Fin n → EReal) (hf : ∀ s, ∃ x : ℝ, f s = (x : EReal)) :
    ∃ M : ℝ, (Finset.univ : Finset (Fin n)).fold max (⊥ : EReal) f = (M : EReal) := by
  have key : ∀ A : Finset (Fin n), A = ∅ ∧ A.fold max (⊥ : EReal) f = ⊥ ∨ ∃ M : ℝ, A.fold max (⊥ : EReal) f = (M : EReal) := by
    intro A
    induction A using Finset.induction_on with
    | empty => left; simp
    | insert a A h ih =>
      right
      obtain ⟨x, hx⟩ := hf a
      rw [Finset.fold_insert h, hx]
      rcases ih with ⟨_, e⟩ | ⟨M, e⟩
      · exact ⟨x, by rw [e]; simp⟩
      · exact ⟨max x M, by rw [e]; exact (EReal.coe_strictMono.monotone.map_max).symm⟩
  rcases key Finset.univ with ⟨e, _⟩ | h
  · exact absurd (e ▸ Finset.mem_univ (⟨0, hn⟩ : Fin n)) (Finset.notMem_empty _)
  · exact h

/-- The f32 constants −∞ and 1/8. -/
theorem ofBits_bot : Ideal.ofBits .f32 0xFF800000#32 = ⊥ := by
  simp [Ideal.ofBits, Ideal.ieee]

theorem ofBits_eighth : Ideal.ofBits .f32 0x3E000000#32 = ((1 / 8 : ℝ) : EReal) := by
  simp [Ideal.ofBits, Ideal.ieee, -EReal.coe_mul]
  norm_num

/-! ### A row of weights -/

variable {n : ℕ} (x : Fin n → ℝ)

/-- The sum of a row's exponentials. -/
def Z : ℝ := ∑ s, Real.exp (x s)

/-- The softmax of a row. -/
def W (s : Fin n) : ℝ := Real.exp (x s) / Z x

/-- The gradient of a row's scores, from the gradient `g` of its weights. -/
def G (g : Fin n → ℝ) (s : Fin n) : ℝ := W x s * (g s - ∑ s', W x s' * g s')

theorem Z_pos (hn : 0 < n) : 0 < Z x :=
  Finset.sum_pos (fun _ _ => Real.exp_pos _) ⟨⟨0, hn⟩, Finset.mem_univ _⟩

/-- The sum of the exponentials after a number is subtracted. -/
theorem sum_shift (M : ℝ) : ∑ s, Real.exp (x s - M) = Z x * Real.exp (-M) := by
  rw [Z, Finset.sum_mul]; exact Finset.sum_congr rfl fun s _ => by rw [sub_eq_add_neg, Real.exp_add]

theorem sum_shift_pos (hn : 0 < n) (M : ℝ) : 0 < ∑ s, Real.exp (x s - M) := by
  rw [sum_shift]; exact mul_pos (Z_pos x hn) (Real.exp_pos _)

/-- The weights do not depend on the number subtracted. -/
theorem shift (hn : 0 < n) (M : ℝ) (s : Fin n) : Real.exp (x s - M) / ∑ s', Real.exp (x s' - M) = W x s := by
  have := (Z_pos x hn).ne'
  have := (Real.exp_pos (-M)).ne'
  rw [sum_shift, W, sub_eq_add_neg, Real.exp_add]; field_simp

/-- The weight from the score and the row's log of its sum. -/
theorem of_log_sum (hn : 0 < n) (M : ℝ) (s : Fin n) :
    Real.exp (x s - (M + Real.log (∑ s', Real.exp (x s' - M)))) = W x s := by
  rw [← shift x hn M s, ← sub_sub, Real.exp_sub, Real.exp_log (sum_shift_pos x hn M)]

/-- The gradient of the softmax written as the derivative of a quotient: of `e / S` by `e` and by `S`. -/
theorem grad_quotient (hn : 0 < n) (M : ℝ) (g : Fin n → ℝ) (s : Fin n) :
    (g s / (∑ s', Real.exp (x s' - M))
      + -(∑ s'', g s'' * (1 / ((∑ s', Real.exp (x s' - M)) * ∑ s', Real.exp (x s' - M))) * Real.exp (x s'' - M)))
      * Real.exp (x s - M) = G x g s := by
  have hS := (sum_shift_pos x hn M).ne'
  simp only [G, ← shift x hn M]
  generalize hS' : ∑ s', Real.exp (x s' - M) = S at hS ⊢
  have : ∑ s'', g s'' * (1 / (S * S)) * Real.exp (x s'' - M) = (∑ s', Real.exp (x s' - M) / S * g s') / S := by
    rw [Finset.sum_div]; exact Finset.sum_congr rfl fun i _ => by field_simp
  rw [this]; field_simp; ring

/-- The weighted sum of the gradients of the weights, from the output `o = ∑ s, W s · v s` and its cotangent. -/
theorem dot_output {k : ℕ} (c : Fin k → ℝ) (v : Fin n → Fin k → ℝ) :
    ∑ d, c d * (∑ s, v s d * W x s) = ∑ s, W x s * ∑ d, c d * v s d := by
  simp only [Finset.mul_sum]
  rw [Finset.sum_comm]
  exact Finset.sum_congr rfl fun s _ => Finset.sum_congr rfl fun d _ => by ring

end Cert.Attn

end
-- ==== Proof.Model.lean ====
/- The attention's gradients over the real numbers: query heads 4g + b read the key and value head g, g < 2, b < 4. -/
module

public import proofs.«01_k».proof.Proof.Softmax

@[expose] public section

noncomputable section

namespace Cert.Attn

variable (Q : Fin 4096 → Fin 8 → Fin 64 → ℝ) (K V : Fin 4096 → Fin 2 → Fin 64 → ℝ) (C : Fin 4096 → Fin 512 → ℝ)

/-- Query head 4g + b. -/
def hd (g : Fin 2) (b : Fin 4) : Fin 8 := ⟨g.val * 4 + b.val, by omega⟩

/-- Lane d of query head 4g + b, among the heads' lanes side by side. -/
def ln (g : Fin 2) (b : Fin 4) (d : Fin 64) : Fin 512 := ⟨g.val * 256 + b.val * 64 + d.val, by omega⟩

/-- The scaled score of query r against key s. -/
def X (g : Fin 2) (b : Fin 4) (r s : Fin 4096) : ℝ := (∑ d, K s g d * Q r (hd g b) d) * (1 / 8)

/-- The loss's derivative by the weight of query r on key s. -/
def DP (g : Fin 2) (b : Fin 4) (r s : Fin 4096) : ℝ := ∑ d, C r (ln g b d) * V s g d

/-- The loss's derivative by the scaled score. -/
def DS (g : Fin 2) (b : Fin 4) (r s : Fin 4096) : ℝ := G (X Q K g b r) (DP V C g b r) s

/-- The gradient of q, the heads' lanes side by side. -/
def gradQ (r : Fin 4096) (l : Fin 512) : ℝ :=
  ∑ s, DS Q K V C ⟨l.val / 256, by omega⟩ ⟨l.val / 64 % 4, by omega⟩ r s * (1 / 8) *
    K s ⟨l.val / 256, by omega⟩ ⟨l.val % 64, by omega⟩

/-- The gradient of k, transposed. -/
def gradK (g : Fin 2) (d : Fin 64) (s : Fin 4096) : ℝ := ∑ r, ∑ b, DS Q K V C g b r s * (1 / 8) * Q r (hd g b) d

/-- The gradient of v, transposed. -/
def gradV (g : Fin 2) (d : Fin 64) (s : Fin 4096) : ℝ := ∑ r, ∑ b, W (X Q K g b r) s * C r (ln g b d)

end Cert.Attn

end

end
-- ==== Proof.HostMax.lean ====
/- The host's maximum along the last axis of four, over real entries. -/
module

public import proofs.«01_k».proof.Proof.Softmax
public import Idealize.ShloMosaic.Lib.Pointwise

@[expose] public section

namespace Cert.Attn

open Idealize.ShloMosaic

/-- The largest entry along the last axis, from −∞, of an array of real entries is real. -/
theorem reduce_max_real {n0 n1 n2 n3 : ℕ} {t u : Shape} (h : (⟨4, ![n0, n1, n2, n3]⟩ : Shape).ReducesTo [3] t) (hu : 0 < u.numel)
    (hn : 0 < n3) (x : (⟨4, ![n0, n1, n2, n3]⟩ : Shape).Idx → EReal) (hx : ∀ i, ∃ r : ℝ, x i = (r : EReal))
    (init : u.Idx → EReal) (hi : init (Shape.Idx.first hu) = ⊥) (j : t.Idx) :
    ∃ M : ℝ, Host.reduce (FloatOps.maximumf (F := Ideal) (φ := .f32)) x init h hu j = (M : EReal) := by
  rw [Host.reduce_eq_fold, Shape.ReducesTo.fold_fiber_r4_a3, hi]
  exact fold_max_real hn _ (fun s => hx _)

end Cert.Attn

end
-- ==== Proof.ReferenceValue.lean ====
/- The value of the attention gradient's reference, term by term. -/
module

public import proofs.«01_k».proof.Proof.Model
public import proofs.«01_k».proof.Proof.HostMax
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Value

open Idealize.ShloMosaic Idealize.ShloMosaic.TcCoe Idealize.SL.Sem Cert.ReferenceIdeal Cert.ReferenceIdeal.Gen

variable (q : FVec Ideal S4096x8x64 .f32) (k v : FVec Ideal S4096x2x64 .f32) (ct : FVec Ideal S4096x512 .f32)

/-- The scaled scores. -/
def scores : FVec Ideal S2x4x4096x4096 .f32 :=
  mulf (transpose S2x4x4096x4096 [0, 3, 2, 1] (Host.dotGeneral dot_S4096x2x64_S4096x2x4x64_S2x4096x4096x4_2_3_0_02_1_1 none k
    (shapeCast _ q shapeCasts_S4096x8x64_S4096x2x4x64)) transposes_S2x4096x4096x4_S2x4x4096x4096_0_3_2_1)
    (broadcastInDim S2x4x4096x4096 ![] bcast_S_S2x4x4096x4096 (constant S_ .f32 0x3E000000#32))

/-- Each row's largest score. -/
def rowMax : FVec Ideal S2x4x4096 .f32 :=
  maximumf (broadcastInDim S2x4x4096 ![] bcast_S_S2x4x4096 (constant S_ .f32 0xFF800000#32))
    (Host.reduce FloatOps.maximumf (scores q k) (constant S_ .f32 0xFF800000#32) reducesTo_S2x4x4096x4096_S2x4x4096_d3 h_S_)

/-- The exponentials of the scores below their row's largest. -/
def expo : FVec Ideal S2x4x4096x4096 .f32 :=
  Host.exp (subf (scores q k) (broadcastInDim S2x4x4096x4096 ![0, 1, 2, 3] bcast_S2x4x4096x1_S2x4x4096x4096_0_1_2_3
    (broadcastInDim S2x4x4096x1 ![0, 1, 2] bcast_S2x4x4096_S2x4x4096x1_0_1_2 (rowMax q k))))

/-- Each row's sum of them. -/
def rowSum : FVec Ideal S2x4x4096x1 .f32 :=
  broadcastInDim S2x4x4096x1 ![0, 1, 2] bcast_S2x4x4096_S2x4x4096x1_0_1_2
    (Host.reduceAdd (expo q k) (constant S_ .f32 0x00000000#32) reducesTo_S2x4x4096x4096_S2x4x4096_d3 h_S_)

/-- The softmax. -/
def weights : FVec Ideal S2x4x4096x4096 .f32 :=
  Host.divf (expo q k) (broadcastInDim S2x4x4096x4096 ![0, 1, 2, 3] bcast_S2x4x4096x1_S2x4x4096x4096_0_1_2_3 (rowSum q k))

/-- The cotangent by heads. -/
def heads : FVec Ideal S2x64x4x4096 .f32 :=
  transpose S2x64x4x4096 [1, 3, 2, 0] (shapeCast _ ct shapeCasts_S4096x512_S4096x2x4x64) transposes_S4096x2x4x64_S2x64x4x4096_1_3_2_0

/-- The gradient of the weights. -/
def dWeights : FVec Ideal S2x4x4096x4096 .f32 :=
  Host.dotGeneral dot_S2x64x4x4096_S4096x2x64_S2x4x4096x4096_1_2_23_0_0_1 none (heads ct) v

/-- The gradient of the rows' sums, with its sign. -/
def dRowSum : FVec Ideal S2x4x4096x1 .f32 :=
  Host.negf (shapeCast _ (Host.reduceAdd (mulf (mulf (dWeights v ct) (broadcastInDim S2x4x4096x4096 ![0, 1, 2, 3] bcast_S2x4x4096x1_S2x4x4096x4096_0_1_2_3
    (Host.divf (broadcastInDim S2x4x4096x1 ![] bcast_S_S2x4x4096x1 (constant S_ .f32 0x3F800000#32)) (mulf (rowSum q k) (rowSum q k))))) (expo q k))
    (constant S_ .f32 0x00000000#32) reducesTo_S2x4x4096x4096_S2x4x4096_d3 h_S_) shapeCasts_S2x4x4096_S2x4x4096x1)

/-- The gradient of the unscaled scores, its axes as the products with the keys and the queries take it. -/
def dScores : FVec Ideal S2x4096x4096x4 .f32 :=
  transpose S2x4096x4096x4 [0, 3, 2, 1] (mulf (mulf (addf
      (Host.divf (dWeights v ct) (broadcastInDim S2x4x4096x4096 ![0, 1, 2, 3] bcast_S2x4x4096x1_S2x4x4096x4096_0_1_2_3 (rowSum q k)))
      (broadcastInDim S2x4x4096x4096 ![0, 1, 2] bcast_S2x4x4096_S2x4x4096x4096_0_1_2
        (Host.reduceAdd (dRowSum q k v ct) (constant S_ .f32 0x00000000#32) reducesTo_S2x4x4096x1_S2x4x4096_d3 h_S_)))
      (expo q k))
    (broadcastInDim S2x4x4096x4096 ![] bcast_S_S2x4x4096x4096 (constant S_ .f32 0x3E000000#32))) transposes_S2x4x4096x4096_S2x4096x4096x4_0_3_2_1

/-- The three gradients. -/
def dQuery : FVec Ideal S4096x512 .f32 :=
  shapeCast _ (shapeCast _ (transpose S4096x2x4x64 [1, 0, 2, 3]
    (Host.dotGeneral dot_S2x4096x4096x4_S4096x2x64_S2x4096x4x64_1_0_23_2_0_1 none (dScores q k v ct) k)
    transposes_S2x4096x4x64_S4096x2x4x64_1_0_2_3) shapeCasts_S4096x2x4x64_S4096x8x64) shapeCasts_S4096x8x64_S4096x512

def dKey : FVec Ideal S2x64x4096 .f32 :=
  transpose S2x64x4096 [1, 2, 0] (transpose S4096x2x64 [1, 0, 2]
    (Host.dotGeneral dot_S2x4096x4096x4_S4096x2x4x64_S2x4096x64_23_02_1_3_0_1 none (dScores q k v ct)
      (shapeCast _ q shapeCasts_S4096x8x64_S4096x2x4x64))
    transposes_S2x4096x64_S4096x2x64_1_0_2) transposes_S4096x2x64_S2x64x4096_1_2_0

def dValue : FVec Ideal S2x64x4096 .f32 :=
  transpose S2x64x4096 [1, 2, 0] (transpose S4096x2x64 [2, 0, 1]
    (Host.dotGeneral dot_S2x64x4x4096_S2x4x4096x4096_S2x64x4096_23_12_1_3_0_0 none (heads ct) (weights q k))
    transposes_S2x64x4096_S4096x2x64_2_0_1) transposes_S4096x2x64_S2x64x4096_1_2_0

theorem res0 (m : (ℓ : Loc nD τ sig) → Buf (Elt Ideal) ℓ) (c : Dev nD) :
    res_out0 m c = dQuery (m ((c.tc : Thread nD τ).loc main_arg0)) (m ((c.tc : Thread nD τ).loc main_arg1))
      (m ((c.tc : Thread nD τ).loc main_arg2)) (m ((c.tc : Thread nD τ).loc main_arg3)) := rfl

theorem res1 (m : (ℓ : Loc nD τ sig) → Buf (Elt Ideal) ℓ) (c : Dev nD) :
    res_out1 m c = dKey (m ((c.tc : Thread nD τ).loc main_arg0)) (m ((c.tc : Thread nD τ).loc main_arg1))
      (m ((c.tc : Thread nD τ).loc main_arg2)) (m ((c.tc : Thread nD τ).loc main_arg3)) := rfl

/-- The reference's run, its results by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = dQuery (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v62) = dKey (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v63) = dValue (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

section Values

open Cert.Attn

variable {q : FVec Ideal S4096x8x64 .f32} {k v : FVec Ideal S4096x2x64 .f32} {ct : FVec Ideal S4096x512 .f32}
variable {Q : Fin 4096 → Fin 8 → Fin 64 → ℝ} {K V : Fin 4096 → Fin 2 → Fin 64 → ℝ} {C : Fin 4096 → Fin 512 → ℝ}

theorem scores_apply (hq : ∀ r h d, q (ix3 r h d) = (Q r h d : EReal)) (hk : ∀ s g d, k (ix3 s g d) = (K s g d : EReal))
    (a : Fin 2) (b : Fin 4) (r s : Fin 4096) : scores q k (ix4 a b r s) = (X Q K a b r s : EReal) := by
  pointwise [scores]
  simp only [hq, hk, ofBits_eighth, ← EReal.coe_mul, ← coe_sum]
  rfl

theorem rowMax_apply (hq : ∀ r h d, q (ix3 r h d) = (Q r h d : EReal)) (hk : ∀ s g d, k (ix3 s g d) = (K s g d : EReal))
    (j : S2x4x4096.Idx) : ∃ M : ℝ, rowMax q k j = (M : EReal) := by
  have hb : constant (F := Ideal) S_ .f32 0xFF800000#32 (Shape.Idx.first h_S_) = ⊥ := ofBits_bot
  obtain ⟨M, hM⟩ := reduce_max_real reducesTo_S2x4x4096x4096_S2x4x4096_d3 h_S_ (by decide) (scores q k)
    (fun i => by idx_vars i; exact ⟨_, scores_apply hq hk _ _ _ _⟩) _ hb j
  refine ⟨M, ?_⟩
  rw [rowMax, maximumf_apply, hM]
  show max (Ideal.ofBits .f32 0xFF800000#32) _ = _
  rw [ofBits_bot]
  exact bot_sup_eq _

theorem expo_apply (a : Fin 2) (b : Fin 4) (r s : Fin 4096) :
    expo q k (ix4 a b r s) = Ideal.exp (scores q k (ix4 a b r s) - rowMax q k (ix3 a b r)) := by
  pointwise [expo]

theorem rowSum_apply (a : Fin 2) (b : Fin 4) (r : Fin 4096) :
    rowSum q k (ix4 a b r 0) = ∑ s, expo q k (ix4 a b r s) := by
  pointwise [rowSum]

/-- A row's exponentials are those of the scores below some real number, and their sum is real. -/
theorem row_apply (hq : ∀ r h d, q (ix3 r h d) = (Q r h d : EReal)) (hk : ∀ s g d, k (ix3 s g d) = (K s g d : EReal))
    (a : Fin 2) (b : Fin 4) (r : Fin 4096) : ∃ M : ℝ, (∀ s, expo q k (ix4 a b r s) = ((Real.exp (X Q K a b r s - M) : ℝ) : EReal)) ∧
      rowSum q k (ix4 a b r 0) = ((∑ s, Real.exp (X Q K a b r s - M) : ℝ) : EReal) := by
  obtain ⟨M, hM⟩ := rowMax_apply hq hk (ix3 a b r)
  have h : ∀ s, expo q k (ix4 a b r s) = ((Real.exp (X Q K a b r s - M) : ℝ) : EReal) := fun s => by
    rw [expo_apply, scores_apply hq hk, hM, ← EReal.coe_sub, Ideal.exp_coe]
  exact ⟨M, h, by rw [rowSum_apply, coe_sum]; exact Finset.sum_congr rfl fun s _ => h s⟩

theorem weights_apply (hq : ∀ r h d, q (ix3 r h d) = (Q r h d : EReal)) (hk : ∀ s g d, k (ix3 s g d) = (K s g d : EReal))
    (a : Fin 2) (b : Fin 4) (r s : Fin 4096) : weights q k (ix4 a b r s) = (W (X Q K a b r) s : EReal) := by
  obtain ⟨M, he, hs⟩ := row_apply hq hk a b r
  have h : weights q k (ix4 a b r s) = Ideal.div (expo q k (ix4 a b r s)) (rowSum q k (ix4 a b r 0)) := by
    pointwise [weights]
  rw [h, he, hs, div_coe_coe _ (sum_shift_pos _ (by decide) M).ne', shift _ (by decide)]

theorem dWeights_apply (hv : ∀ s g d, v (ix3 s g d) = (V s g d : EReal)) (hc : ∀ r l, ct (ix2 r l) = (C r l : EReal))
    (a : Fin 2) (b : Fin 4) (r s : Fin 4096) : dWeights v ct (ix4 a b r s) = (DP V C a b r s : EReal) := by
  pointwise [dWeights, heads]
  simp only [hv, hc, ← EReal.coe_mul, ← coe_sum]
  rfl

theorem dScores_apply (hq : ∀ r h d, q (ix3 r h d) = (Q r h d : EReal)) (hk : ∀ s g d, k (ix3 s g d) = (K s g d : EReal))
    (hv : ∀ s g d, v (ix3 s g d) = (V s g d : EReal)) (hc : ∀ r l, ct (ix2 r l) = (C r l : EReal))
    (a : Fin 2) (b : Fin 4) (r s : Fin 4096) : dScores q k v ct (ix4 a s r b) = ((DS Q K V C a b r s * (1 / 8) : ℝ) : EReal) := by
  obtain ⟨M, he, hs⟩ := row_apply hq hk a b r
  have h1 : dRowSum q k v ct (ix4 a b r 0) =
      -∑ x, dWeights v ct (ix4 a b r x) * Ideal.div 1 (rowSum q k (ix4 a b r 0) * rowSum q k (ix4 a b r 0)) * expo q k (ix4 a b r x) := by
    pointwise [dRowSum]
  have h2 : dScores q k v ct (ix4 a s r b) = (Ideal.div (dWeights v ct (ix4 a b r s)) (rowSum q k (ix4 a b r 0)) +
      ∑ x, dRowSum q k v ct (ix4 a b r x)) * expo q k (ix4 a b r s) * Ideal.ofBits .f32 0x3E000000#32 := by
    pointwise [dScores]
  have hp := (sum_shift_pos (X Q K a b r) (by decide) M).ne'
  rw [h2, Fin.sum_univ_one, h1]
  simp only [he, hs, dWeights_apply hv hc, ofBits_eighth, ← EReal.coe_mul, ← EReal.coe_one, div_coe_coe _ hp,
    div_coe_coe _ (mul_ne_zero hp hp), ← coe_sum, ← EReal.coe_neg, ← EReal.coe_add]
  rw [grad_quotient _ (by decide)]
  rfl

theorem dQuery_apply (hq : ∀ r h d, q (ix3 r h d) = (Q r h d : EReal)) (hk : ∀ s g d, k (ix3 s g d) = (K s g d : EReal))
    (hv : ∀ s g d, v (ix3 s g d) = (V s g d : EReal)) (hc : ∀ r l, ct (ix2 r l) = (C r l : EReal))
    (r : Fin 4096) (l : Fin 512) : dQuery q k v ct (ix2 r l) = (gradQ Q K V C r l : EReal) := by
  pointwise [dQuery]
  simp only [dScores_apply hq hk hv hc, hk, ← EReal.coe_mul, ← coe_sum]
  rfl

theorem dKey_apply (hq : ∀ r h d, q (ix3 r h d) = (Q r h d : EReal)) (hk : ∀ s g d, k (ix3 s g d) = (K s g d : EReal))
    (hv : ∀ s g d, v (ix3 s g d) = (V s g d : EReal)) (hc : ∀ r l, ct (ix2 r l) = (C r l : EReal))
    (a : Fin 2) (d : Fin 64) (s : Fin 4096) : dKey q k v ct (ix3 a d s) = (gradK Q K V C a d s : EReal) := by
  pointwise [dKey]
  simp only [dScores_apply hq hk hv hc, hq, ← EReal.coe_mul, ← coe_sum]
  rfl

theorem dValue_apply (hq : ∀ r h d, q (ix3 r h d) = (Q r h d : EReal)) (hk : ∀ s g d, k (ix3 s g d) = (K s g d : EReal))
    (hc : ∀ r l, ct (ix2 r l) = (C r l : EReal))
    (a : Fin 2) (d : Fin 64) (s : Fin 4096) : dValue q k ct (ix3 a d s) = (gradV Q K C a d s : EReal) := by
  pointwise [dValue, heads]
  simp only [weights_apply hq hk, hc, ← EReal.coe_mul, ← coe_sum]
  rw [gradV, Finset.sum_comm]
  exact congrArg _ (Finset.sum_congr rfl fun r _ => Finset.sum_congr rfl fun b _ => mul_comm _ _)

end Values

end Cert.ReferenceIdeal.Value

end
-- ==== Proof.HostValue.lean ====
/- The arrays the host prepares for the attention gradient's kernel, element by element over real arguments. -/
module

public import proofs.«01_k».proof.Proof.Gen.KernelIdeal.Value
public import proofs.«01_k».proof.Proof.ReferenceValue
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.ReferenceIdeal.Value (scores weights scores_apply weights_apply)

section Arrays

variable (q : FVec Ideal S4096x8x64 .f32) (k v : FVec Ideal S4096x2x64 .f32)

/-- q divided by 8, in bf16. -/
def qScaled : FVec Ideal S4096x8x64 .bf16 :=
  truncf .bf16 (mulf q (broadcastInDim S4096x8x64 ![] bcast_S_S4096x8x64 (constant S_ .f32 0x3E000000#32))) bitsLt_bf16_f32

/-- The scaled q, the head leading. -/
def qHeads : FVec Ideal S8x4096x64 .bf16 := transpose S8x4096x64 [1, 0, 2] (qScaled q) transposes_S4096x8x64_S8x4096x64_1_0_2

/-- The scaled q transposed, the head leading. -/
def qHeadsT : FVec Ideal S8x64x4096 .bf16 := transpose S8x64x4096 [1, 2, 0] (qScaled q) transposes_S4096x8x64_S8x64x4096_1_2_0

/-- k (or v), the head leading. -/
def kvHeads : FVec Ideal S2x4096x64 .bf16 := transpose S2x4096x64 [1, 0, 2] (truncf .bf16 k bitsLt_bf16_f32) transposes_S4096x2x64_S2x4096x64_1_0_2

/-- The attention's output. -/
def output : FVec Ideal S4096x512 .f32 :=
  shapeCast _ (transpose S4096x2x4x64 [3, 0, 2, 1] (Host.dotGeneral dot_S4096x2x64_S2x4x4096x4096_S2x64x4x4096_0_3_2_12_1_0 none v (weights q k))
    transposes_S2x64x4x4096_S4096x2x4x64_3_0_2_1) shapeCasts_S4096x2x4x64_S4096x512

/-- Each row's largest score. -/
def logMax : FVec Ideal S2x4x4096x1 .f32 :=
  broadcastInDim S2x4x4096x1 ![0, 1, 2] bcast_S2x4x4096_S2x4x4096x1_0_1_2
    (Host.reduce FloatOps.maximumf (scores q k) (constant S_ .f32 0xFF800000#32) reducesTo_S2x4x4096x4096_S2x4x4096_d3 h_S_)

/-- The exponentials of the scores below it. -/
def logExp : FVec Ideal S2x4x4096x4096 .f32 :=
  Host.exp (subf (scores q k) (broadcastInDim S2x4x4096x4096 ![0, 1, 2, 3] bcast_S2x4x4096x1_S2x4x4096x4096_0_1_2_3 (logMax q k)))

/-- Each row's sum of exponentials. -/
def logSum : FVec Ideal S2x4x4096x1 .f32 :=
  broadcastInDim S2x4x4096x1 ![0, 1, 2] bcast_S2x4x4096_S2x4x4096x1_0_1_2
    (Host.reduceAdd (logExp q k) (constant S_ .f32 0x00000000#32) reducesTo_S2x4x4096x4096_S2x4x4096_d3 h_S_)

/-- Each row's log of the sum of its scores' exponentials. -/
def logSums : FVec Ideal S8x1x4096 .f32 :=
  shapeCast _ (addf (logMax q k) (Host.log (logSum q k))) shapeCasts_S2x4x4096x1_S8x1x4096

end Arrays

variable (m : (ℓ : Loc nD τ sig) → Buf (Elt Ideal) ℓ)

theorem V_q (c : Dev nD) : V m c main_v7 = qHeads (m ((c : Thread nD τ).loc main_arg0)) := by entry_read; rfl
theorem V_qt (c : Dev nD) : V m c main_v8 = qHeadsT (m ((c : Thread nD τ).loc main_arg0)) := by entry_read; rfl
theorem V_k (c : Dev nD) : V m c main_v4 = kvHeads (m ((c : Thread nD τ).loc main_arg1)) := by entry_read; rfl
theorem V_v (c : Dev nD) : V m c main_v6 = kvHeads (m ((c : Thread nD τ).loc main_arg2)) := by entry_read; rfl
theorem V_oa (c : Dev nD) : V m c main_v27 = output (m ((c : Thread nD τ).loc main_arg0)) (m ((c : Thread nD τ).loc main_arg1)) (m ((c : Thread nD τ).loc main_arg2)) := by
  entry_read; rfl
theorem V_lse (c : Dev nD) : V m c main_v42 = logSums (m ((c : Thread nD τ).loc main_arg0)) (m ((c : Thread nD τ).loc main_arg1)) := by
  entry_read; rfl

section Values

open Cert.Attn

variable {q : FVec Ideal S4096x8x64 .f32} {k v : FVec Ideal S4096x2x64 .f32}
variable {Q : Fin 4096 → Fin 8 → Fin 64 → ℝ} {K V : Fin 4096 → Fin 2 → Fin 64 → ℝ}

theorem qHeads_apply (hq : ∀ r h d, q (ix3 r h d) = (Q r h d : EReal)) (h : Fin 8) (r : Fin 4096) (d : Fin 64) :
    qHeads q (ix3 h r d) = ((Q r h d * (1 / 8) : ℝ) : EReal) := by
  pointwise [qHeads, qScaled]
  rw [hq, ofBits_eighth, EReal.coe_mul]

theorem qHeadsT_apply (hq : ∀ r h d, q (ix3 r h d) = (Q r h d : EReal)) (h : Fin 8) (d : Fin 64) (r : Fin 4096) :
    qHeadsT q (ix3 h d r) = ((Q r h d * (1 / 8) : ℝ) : EReal) := by
  pointwise [qHeadsT, qScaled]
  rw [hq, ofBits_eighth, EReal.coe_mul]

theorem kvHeads_apply (hk : ∀ s g d, k (ix3 s g d) = (K s g d : EReal)) (g : Fin 2) (s : Fin 4096) (d : Fin 64) :
    kvHeads k (ix3 g s d) = (K s g d : EReal) := by
  pointwise [kvHeads]
  rw [hk]

theorem output_apply (hq : ∀ r h d, q (ix3 r h d) = (Q r h d : EReal)) (hk : ∀ s g d, k (ix3 s g d) = (K s g d : EReal))
    (hv : ∀ s g d, v (ix3 s g d) = (V s g d : EReal)) (g : Fin 2) (b : Fin 4) (r : Fin 4096) (d : Fin 64) :
    output q k v (ix2 r (ln g b d)) = ((∑ s, V s g d * W (X Q K g b r) s : ℝ) : EReal) := by
  have h1 : (ln g b d).val / 256 = g.val := by simp only [ln]; omega
  have h2 : (ln g b d).val / 64 % 4 = b.val := by simp only [ln]; omega
  have h3 : (ln g b d).val % 64 = d.val := by simp only [ln]; omega
  pointwise [output]
  simp only [h1, h2, h3, hv, weights_apply hq hk, ← EReal.coe_mul, ← coe_sum]

theorem logMax_apply (hq : ∀ r h d, q (ix3 r h d) = (Q r h d : EReal)) (hk : ∀ s g d, k (ix3 s g d) = (K s g d : EReal))
    (a : Fin 2) (b : Fin 4) (r : Fin 4096) : ∃ M : ℝ, logMax q k (ix4 a b r 0) = (M : EReal) := by
  have hb : constant (F := Ideal) S_ .f32 0xFF800000#32 (Shape.Idx.first h_S_) = ⊥ := ofBits_bot
  obtain ⟨M, hM⟩ := reduce_max_real reducesTo_S2x4x4096x4096_S2x4x4096_d3 h_S_ (by decide) (scores q k)
    (fun i => by idx_vars i; exact ⟨_, scores_apply hq hk _ _ _ _⟩) _ hb (ix3 a b r)
  refine ⟨M, ?_⟩
  rw [← hM]
  unfold logMax
  generalize Host.reduce FloatOps.maximumf (scores q k) (constant S_ .f32 0xFF800000#32) reducesTo_S2x4x4096x4096_S2x4x4096_d3 h_S_ = y
  pointwise []

theorem logSum_apply (a : Fin 2) (b : Fin 4) (r : Fin 4096) : logSum q k (ix4 a b r 0) = ∑ s, logExp q k (ix4 a b r s) := by
  pointwise [logSum]

theorem logExp_apply (a : Fin 2) (b : Fin 4) (r s : Fin 4096) :
    logExp q k (ix4 a b r s) = Ideal.exp (scores q k (ix4 a b r s) - logMax q k (ix4 a b r 0)) := by
  pointwise [logExp]

/-- Folding the two head axes into one. -/
theorem fold_heads (x : FVec Ideal S2x4x4096x1 .f32) (h : Fin 8) (r : Fin 4096) :
    shapeCast S8x1x4096 x shapeCasts_S2x4x4096x1_S8x1x4096 (ix3 h 0 r) =
      x (ix4 (⟨h.val / 4, by omega⟩ : Fin 2) (⟨h.val % 4, by omega⟩ : Fin 4) r 0) := by
  pointwise []

theorem add_log_apply (x y : FVec Ideal S2x4x4096x1 .f32) (i : S2x4x4096x1.Idx) : addf x (Host.log y) i = x i + Ideal.log (y i) := rfl

theorem logSums_split (h : Fin 8) (r : Fin 4096) :
    logSums q k (ix3 h 0 r) = logMax q k (ix4 (⟨h.val / 4, by omega⟩ : Fin 2) (⟨h.val % 4, by omega⟩ : Fin 4) r 0) +
      Ideal.log (logSum q k (ix4 (⟨h.val / 4, by omega⟩ : Fin 2) (⟨h.val % 4, by omega⟩ : Fin 4) r 0)) :=
  (fold_heads _ h r).trans (add_log_apply _ _ _)

/-- The log-sum of a row turns its scores into its weights. -/
theorem logSums_apply (hq : ∀ r h d, q (ix3 r h d) = (Q r h d : EReal)) (hk : ∀ s g d, k (ix3 s g d) = (K s g d : EReal))
    (g : Fin 2) (b : Fin 4) (r : Fin 4096) :
    ∃ L : ℝ, logSums q k (ix3 (hd g b) 0 r) = (L : EReal) ∧ ∀ s, Real.exp (X Q K g b r s - L) = W (X Q K g b r) s := by
  obtain ⟨M, hM⟩ := logMax_apply hq hk g b r
  have he : ∀ s, logExp q k (ix4 g b r s) = ((Real.exp (X Q K g b r s - M) : ℝ) : EReal) := fun s => by
    rw [logExp_apply, scores_apply hq hk, hM, ← EReal.coe_sub, Ideal.exp_coe]
  have h1 : (⟨(hd g b).val / 4, by omega⟩ : Fin 2) = g := Fin.ext (by simp only [hd]; omega)
  have h2 : (⟨(hd g b).val % 4, by omega⟩ : Fin 4) = b := Fin.ext (by simp only [hd]; omega)
  have hs : logSum q k (ix4 g b r 0) = ((∑ s, Real.exp (X Q K g b r s - M) : ℝ) : EReal) := by
    rw [logSum_apply, coe_sum]; exact Finset.sum_congr rfl fun s _ => he s
  have hp := sum_shift_pos (X Q K g b r) (by decide) M
  refine ⟨M + Real.log (∑ s, Real.exp (X Q K g b r s - M)), ?_, fun s => of_log_sum _ (by decide) M s⟩
  rw [logSums_split, h1, h2, hM, hs, Ideal.log_coe, if_neg (not_le.mpr hp), ← EReal.coe_add]

end Values

end Cert.KernelIdeal.Value

end

end
-- ==== Proof.Step.lean ====
/- What one grid point of the attention gradient's kernel computes from its blocks, element by element. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- Lane d of the pair's head j. -/
def lane (j : Fin 2) (d : Fin 64) : Fin 128 := ⟨j.val * 64 + d.val, by omega⟩

section Blocks

variable (x0 : Vec Ideal S2x1024x64 .bf16) (x1 : Vec Ideal S2x64x1024 .bf16) (x2 x3 : Vec Ideal S1x4096x64 .bf16)
variable (x4 x5 : Vec Ideal S1024x128 .f32) (x6 : Vec Ideal S2x1x1024 .f32)

/-- The weight of the block's query r on key s, from the row's log-sum. -/
def pr (j : Fin 2) (r : Fin 1024) (s : Fin 4096) : EReal :=
  Ideal.exp ((∑ d : Fin 64, x0 (ix3 j r d) * x2 (ix3 0 s d)) - x6 (ix3 j 0 r))

/-- The derivative by the scaled score of query r on key s. -/
def ds (j : Fin 2) (r : Fin 1024) (s : Fin 4096) : EReal :=
  pr x0 x2 x6 j r s * ((∑ d : Fin 64, x4 (ix2 r (lane j d)) * x3 (ix3 0 s d)) - ∑ d : Fin 64, x4 (ix2 r (lane j d)) * x5 (ix2 r (lane j d)))

end Blocks

/-! ### One chunk of keys -/

section Chunk

variable (v20 v24 : FVec Ideal S1024x64 .bf16) (v22 v26 : FVec Ideal S64x1024 .bf16) (v33 v39 : FVec Ideal S1024x512 .f32)
variable (v98 : FVec Ideal S512x64 .bf16) (v99 : Vec Ideal S1x512x64 .bf16) (prev : Vec Ideal S1x64x512 .f32) (acc : FVec Ideal S1024x64 .f32)

theorem pay26_apply (r : Fin 1024) (s : Fin 512) : k0_pay26 v20 v39 v98 (ix2 r s) =
    Ideal.exp ((∑ d : Fin 64, v20 (ix2 r d) * v98 (ix2 s d)) - v39 (ix2 r s)) := by
  pointwise [k0_pay26]

theorem pay27_apply (r : Fin 1024) (s : Fin 512) : k0_pay27 v20 v24 v33 v39 v98 v99 (ix2 r s) =
    k0_pay26 v20 v39 v98 (ix2 r s) * ((∑ d : Fin 64, v24 (ix2 r d) * v99 (ix3 0 s d)) - v33 (ix2 r s)) := by
  pointwise [k0_pay27]

theorem pay28_apply (d : Fin 64) (s : Fin 512) : k0_pay28 v20 v26 v39 v98 prev (ix3 0 d s) =
    prev (ix3 0 d s) + ∑ r : Fin 1024, v26 (ix2 d r) * k0_pay26 v20 v39 v98 (ix2 r s) := by
  pointwise [k0_pay28]

theorem pay29_apply (d : Fin 64) (s : Fin 512) : k0_pay29 v20 v22 v24 v33 v39 v98 v99 prev (ix3 0 d s) =
    prev (ix3 0 d s) + ∑ r : Fin 1024, v22 (ix2 d r) * k0_pay27 v20 v24 v33 v39 v98 v99 (ix2 r s) := by
  pointwise [k0_pay29]

theorem pay30_apply (r : Fin 1024) (d : Fin 64) : k0_pay30 v20 v24 v33 v39 acc v98 v99 (ix2 r d) =
    acc (ix2 r d) + ∑ s : Fin 512, k0_pay27 v20 v24 v33 v39 v98 v99 (ix2 r s) * v98 (ix2 s d) := by
  pointwise [k0_pay30]

end Chunk

/-! ### The operands of the pair's two heads -/

section Operands

variable (x0 : Vec Ideal S2x1024x64 .bf16) (x1 : Vec Ideal S2x64x1024 .bf16) (x2 x3 : Vec Ideal S1x4096x64 .bf16)
variable (x4 x5 : Vec Ideal S1024x128 .f32) (x6 : Vec Ideal S2x1x1024 .f32)

theorem q_0 (r : Fin 1024) (d : Fin 64) : k0_pay5 (View.ld x0 (Rect.unit ![0, 0, 0] ![1, 1024, 64] inb_S2x1024x64_S1x1024x64_0_0_0)) (ix2 r d) = x0 (ix3 0 r d) := by
  pointwise [k0_pay5]

theorem q_1 (r : Fin 1024) (d : Fin 64) : k0_pay66 (View.ld x0 (Rect.unit ![1, 0, 0] ![1, 1024, 64] inb_S2x1024x64_S1x1024x64_1_0_0)) (ix2 r d) = x0 (ix3 1 r d) := by
  pointwise [k0_pay66]

theorem qt_0 (d : Fin 64) (r : Fin 1024) : k0_pay6 (View.ld x1 (Rect.unit ![0, 0, 0] ![1, 64, 1024] inb_S2x64x1024_S1x64x1024_0_0_0)) (ix2 d r) = x1 (ix3 0 d r) := by
  pointwise [k0_pay6]

theorem qt_1 (d : Fin 64) (r : Fin 1024) : k0_pay67 (View.ld x1 (Rect.unit ![1, 0, 0] ![1, 64, 1024] inb_S2x64x1024_S1x64x1024_1_0_0)) (ix2 d r) = x1 (ix3 1 d r) := by
  pointwise [k0_pay67]

theorem do_0 (r : Fin 1024) (d : Fin 64) : k0_pay8 x4 (ix2 r d) = x4 (ix2 r (lane 0 d)) := by
  pointwise [k0_pay8, k0_pay7, lane]

theorem do_1 (r : Fin 1024) (d : Fin 64) : k0_pay69 x4 (ix2 r d) = x4 (ix2 r (lane 1 d)) := by
  pointwise [k0_pay69, k0_pay68, lane]

theorem dot_0 (r : Fin 1024) (d : Fin 64) : k0_pay9 x4 (ix2 d r) = x4 (ix2 r (lane 0 d)) := by
  pointwise [k0_pay9, k0_pay4, lane]

theorem dot_1 (r : Fin 1024) (d : Fin 64) : k0_pay70 (k0_pay4 x4) (ix2 d r) = x4 (ix2 r (lane 1 d)) := by
  pointwise [k0_pay70, k0_pay4, lane]

theorem dd_0 (r : Fin 1024) (s : Fin 512) : k0_pay10 x4 x5 (ix2 r s) = ∑ d : Fin 64, x4 (ix2 r (lane 0 d)) * x5 (ix2 r (lane 0 d)) := by
  pointwise [k0_pay10, k0_pay7, k0_pay3, lane]
  split_ifs <;> rfl

theorem dd_1 (r : Fin 1024) (s : Fin 512) : k0_pay71 x4 (k0_pay3 x5) (ix2 r s) = ∑ d : Fin 64, x4 (ix2 r (lane 1 d)) * x5 (ix2 r (lane 1 d)) := by
  pointwise [k0_pay71, k0_pay68, k0_pay3, lane]
  split_ifs <;> rfl

theorem lse_0 (r : Fin 1024) (s : Fin 512) : k0_pay11 (View.ld x6 (Rect.unit ![0, 0, 0] ![1, 1, 1024] inb_S2x1x1024_S1x1x1024_0_0_0)) (ix2 r s) = x6 (ix3 0 0 r) := by
  pointwise [k0_pay11]
  split_ifs <;> rfl

theorem lse_1 (r : Fin 1024) (s : Fin 512) : k0_pay72 (View.ld x6 (Rect.unit ![1, 0, 0] ![1, 1, 1024] inb_S2x1x1024_S1x1x1024_1_0_0)) (ix2 r s) = x6 (ix3 1 0 r) := by
  pointwise [k0_pay72]
  split_ifs <;> rfl

theorem k_chunk (o : ℕ) (h : o + 512 ≤ 4096) (inb : ∀ a, ![0, o, 0] a + ![1, 512, 64] a ≤ S1x4096x64.size a) (s : Fin 512) (d : Fin 64) :
    k0_pay25 (View.ld x2 (Rect.unit ![0, o, 0] ![1, 512, 64] inb)) (ix2 s d) = x2 (ix3 0 ⟨o + s.val, by omega⟩ d) := by
  pointwise [k0_pay25]

theorem v_chunk (o : ℕ) (h : o + 512 ≤ 4096) (inb : ∀ a, ![0, o, 0] a + ![1, 512, 64] a ≤ S1x4096x64.size a) (s : Fin 512) (d : Fin 64) :
    View.ld x3 (Rect.unit ![0, o, 0] ![1, 512, 64] inb) (ix3 0 s d) = x3 (ix3 0 ⟨o + s.val, by omega⟩ d) := by
  pointwise []

/-- The two heads' steps on dvᵀ, added to a. -/
def dvStep (a : Vec Ideal S1x64x4096 .f32) (d : Fin 64) (s : Fin 4096) : EReal :=
  a (ix3 0 d s) + ∑ r : Fin 1024, x4 (ix2 r (lane 0 d)) * pr x0 x2 x6 0 r s + ∑ r : Fin 1024, x4 (ix2 r (lane 1 d)) * pr x0 x2 x6 1 r s

/-- The two heads' steps on dkᵀ, added to a. -/
def dkStep (a : Vec Ideal S1x64x4096 .f32) (d : Fin 64) (s : Fin 4096) : EReal :=
  a (ix3 0 d s) + ∑ r : Fin 1024, x1 (ix3 0 d r) * ds x0 x2 x3 x4 x5 x6 0 r s + ∑ r : Fin 1024, x1 (ix3 1 d r) * ds x0 x2 x3 x4 x5 x6 1 r s

theorem pr_0 (o : ℕ) (h : o + 512 ≤ 4096) (inb : ∀ a, ![0, o, 0] a + ![1, 512, 64] a ≤ S1x4096x64.size a) (r : Fin 1024) (s : Fin 512) :
    k0_pay26 (k0_pay5 (View.ld x0 (Rect.unit ![0, 0, 0] ![1, 1024, 64] inb_S2x1024x64_S1x1024x64_0_0_0)))
      (k0_pay11 (View.ld x6 (Rect.unit ![0, 0, 0] ![1, 1, 1024] inb_S2x1x1024_S1x1x1024_0_0_0)))
      (k0_pay25 (View.ld x2 (Rect.unit ![0, o, 0] ![1, 512, 64] inb))) (ix2 r s) = pr x0 x2 x6 0 r ⟨o + s.val, by omega⟩ := by
  simp only [pay26_apply, q_0, lse_0, k_chunk x2 o h inb, pr]

theorem pr_1 (o : ℕ) (h : o + 512 ≤ 4096) (inb : ∀ a, ![0, o, 0] a + ![1, 512, 64] a ≤ S1x4096x64.size a) (r : Fin 1024) (s : Fin 512) :
    k0_pay26 (k0_pay66 (View.ld x0 (Rect.unit ![1, 0, 0] ![1, 1024, 64] inb_S2x1024x64_S1x1024x64_1_0_0)))
      (k0_pay72 (View.ld x6 (Rect.unit ![1, 0, 0] ![1, 1, 1024] inb_S2x1x1024_S1x1x1024_1_0_0)))
      (k0_pay25 (View.ld x2 (Rect.unit ![0, o, 0] ![1, 512, 64] inb))) (ix2 r s) = pr x0 x2 x6 1 r ⟨o + s.val, by omega⟩ := by
  simp only [pay26_apply, q_1, lse_1, k_chunk x2 o h inb, pr]

theorem ds_0 (o : ℕ) (h : o + 512 ≤ 4096) (inb : ∀ a, ![0, o, 0] a + ![1, 512, 64] a ≤ S1x4096x64.size a) (r : Fin 1024) (s : Fin 512) :
    k0_pay27 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay25 (View.ld x2 (Rect.unit ![0, o, 0] ![1, 512, 64] inb))) (View.ld x3 (Rect.unit ![0, o, 0] ![1, 512, 64] inb)) (ix2 r s)
      = ds x0 x2 x3 x4 x5 x6 0 r ⟨o + s.val, by omega⟩ := by
  simp only [pay27_apply, pr_0 x0 x2 x6 o h inb, do_0, dd_0, v_chunk x3 o h inb, ds]

theorem ds_1 (o : ℕ) (h : o + 512 ≤ 4096) (inb : ∀ a, ![0, o, 0] a + ![1, 512, 64] a ≤ S1x4096x64.size a) (r : Fin 1024) (s : Fin 512) :
    k0_pay27 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay25 (View.ld x2 (Rect.unit ![0, o, 0] ![1, 512, 64] inb))) (View.ld x3 (Rect.unit ![0, o, 0] ![1, 512, 64] inb)) (ix2 r s)
      = ds x0 x2 x3 x4 x5 x6 1 r ⟨o + s.val, by omega⟩ := by
  simp only [pay27_apply, pr_1 x0 x2 x6 o h inb, do_1, dd_1, v_chunk x3 o h inb, ds]

/-- A chunk's store into dvᵀ. -/
theorem dv_piece (a : Vec Ideal S1x64x4096 .f32) (o : ℕ) (h : o + 512 ≤ 4096) (inb : ∀ a, ![0, o, 0] a + ![1, 512, 64] a ≤ S1x4096x64.size a)
    (inb' : ∀ a, ![0, 0, o] a + ![1, 64, 512] a ≤ S1x64x4096.size a) (d : Fin 64) (s : Fin 512) :
    k0_pay28 (k0_pay66 (View.ld x0 (Rect.unit ![1, 0, 0] ![1, 1024, 64] inb_S2x1024x64_S1x1024x64_1_0_0))) (k0_pay70 (k0_pay4 x4))
      (k0_pay72 (View.ld x6 (Rect.unit ![1, 0, 0] ![1, 1, 1024] inb_S2x1x1024_S1x1x1024_1_0_0)))
      (k0_pay25 (View.ld x2 (Rect.unit ![0, o, 0] ![1, 512, 64] inb)))
      (k0_pay28 (k0_pay5 (View.ld x0 (Rect.unit ![0, 0, 0] ![1, 1024, 64] inb_S2x1024x64_S1x1024x64_0_0_0))) (k0_pay9 x4)
        (k0_pay11 (View.ld x6 (Rect.unit ![0, 0, 0] ![1, 1, 1024] inb_S2x1x1024_S1x1x1024_0_0_0)))
        (k0_pay25 (View.ld x2 (Rect.unit ![0, o, 0] ![1, 512, 64] inb)))
        (View.ld a (Rect.unit ![0, 0, o] ![1, 64, 512] inb'))) (ix3 0 d s)
      = dvStep x0 x2 x4 x6 a d ⟨o + s.val, by omega⟩ := by
  have e : View.ld a (Rect.unit ![0, 0, o] ![1, 64, 512] inb') (ix3 0 d s) = a (ix3 0 d ⟨o + s.val, by omega⟩) := by pointwise []
  simp only [pay28_apply, pr_0 x0 x2 x6 o h inb, pr_1 x0 x2 x6 o h inb, dot_0, dot_1, e, dvStep]

/-- A chunk's store into dkᵀ. -/
theorem dk_piece (a : Vec Ideal S1x64x4096 .f32) (o : ℕ) (h : o + 512 ≤ 4096) (inb : ∀ a, ![0, o, 0] a + ![1, 512, 64] a ≤ S1x4096x64.size a)
    (inb' : ∀ a, ![0, 0, o] a + ![1, 64, 512] a ≤ S1x64x4096.size a) (d : Fin 64) (s : Fin 512) :
    k0_pay29 (k0_pay66 (View.ld x0 (Rect.unit ![1, 0, 0] ![1, 1024, 64] inb_S2x1024x64_S1x1024x64_1_0_0)))
      (k0_pay67 (View.ld x1 (Rect.unit ![1, 0, 0] ![1, 64, 1024] inb_S2x64x1024_S1x64x1024_1_0_0))) (k0_pay69 x4) (k0_pay71 x4 (k0_pay3 x5))
      (k0_pay72 (View.ld x6 (Rect.unit ![1, 0, 0] ![1, 1, 1024] inb_S2x1x1024_S1x1x1024_1_0_0)))
      (k0_pay25 (View.ld x2 (Rect.unit ![0, o, 0] ![1, 512, 64] inb))) (View.ld x3 (Rect.unit ![0, o, 0] ![1, 512, 64] inb))
      (k0_pay29 (k0_pay5 (View.ld x0 (Rect.unit ![0, 0, 0] ![1, 1024, 64] inb_S2x1024x64_S1x1024x64_0_0_0)))
        (k0_pay6 (View.ld x1 (Rect.unit ![0, 0, 0] ![1, 64, 1024] inb_S2x64x1024_S1x64x1024_0_0_0))) (k0_pay8 x4) (k0_pay10 x4 x5)
        (k0_pay11 (View.ld x6 (Rect.unit ![0, 0, 0] ![1, 1, 1024] inb_S2x1x1024_S1x1x1024_0_0_0)))
        (k0_pay25 (View.ld x2 (Rect.unit ![0, o, 0] ![1, 512, 64] inb))) (View.ld x3 (Rect.unit ![0, o, 0] ![1, 512, 64] inb))
        (View.ld a (Rect.unit ![0, 0, o] ![1, 64, 512] inb'))) (ix3 0 d s)
      = dkStep x0 x1 x2 x3 x4 x5 x6 a d ⟨o + s.val, by omega⟩ := by
  have e : View.ld a (Rect.unit ![0, 0, o] ![1, 64, 512] inb') (ix3 0 d s) = a (ix3 0 d ⟨o + s.val, by omega⟩) := by pointwise []
  simp only [pay29_apply, ds_0 x0 x2 x3 x4 x5 x6 o h inb, ds_1 x0 x2 x3 x4 x5 x6 o h inb, qt_0, qt_1, e, dkStep]

end Operands

/-- A chunk's columns. -/
theorem mem_chunk (o : ℕ) (inb' : ∀ a, ![0, 0, o] a + ![1, 64, 512] a ≤ S1x64x4096.size a) (d : Fin 64) (s : Fin 4096)
    (h1 : o ≤ s.val) (h2 : s.val < o + 512) : (ix3 0 d s : S1x64x4096.Idx) ∈ (Rect.unit (s := S1x64x4096) ![0, 0, o] ![1, 64, 512] inb').set := by
  refine Rect.mem_set_unit.mpr fun a => ?_
  match a with
  | ⟨0, _⟩ => exact ⟨le_refl 0, Nat.zero_lt_one⟩
  | ⟨1, _⟩ => exact ⟨Nat.zero_le _, by show d.val < 0 + 64; omega⟩
  | ⟨2, _⟩ => exact ⟨h1, h2⟩

theorem emb_chunk_1 (o : ℕ) (inb' : ∀ a, ![0, 0, o] a + ![1, 64, 512] a ≤ S1x64x4096.size a) (d : Fin 64) (s : Fin 512) :
    (Rect.unit (s := S1x64x4096) ![0, 0, o] ![1, 64, 512] inb').emb (ix3 0 d s) 1 = d := by
  apply Fin.ext
  show 0 + 1 * d.val = d.val
  omega

theorem emb_chunk_2 (o : ℕ) (h : o + 512 ≤ 4096) (inb' : ∀ a, ![0, 0, o] a + ![1, 64, 512] a ≤ S1x64x4096.size a) (d : Fin 64) (s : Fin 512) :
    (Rect.unit (s := S1x64x4096) ![0, 0, o] ![1, 64, 512] inb').emb (ix3 0 d s) 2 = (⟨o + s.val, by omega⟩ : Fin 4096) := by
  apply Fin.ext
  show o + 1 * s.val = o + s.val
  omega

end Cert.KernelIdeal.Value

end

end
-- ==== Proof.Chunks.lean ====
/- A sum over 4096 terms, in eight chunks of 512, and a sum over four heads of four tiles of 1024, in runs. -/
module

public import Mathlib.Algebra.BigOperators.Fin

@[expose] public section

namespace Cert.Attn

/-- A sum over 4096 terms, chunk by chunk from zero. -/
theorem sum_chunks {M : Type*} [AddCommMonoid M] (f : Fin 4096 → M) :
    0 + (∑ s : Fin 512, f ⟨0 + s.val, by omega⟩) + (∑ s : Fin 512, f ⟨512 + s.val, by omega⟩) + (∑ s : Fin 512, f ⟨1024 + s.val, by omega⟩)
      + (∑ s : Fin 512, f ⟨1536 + s.val, by omega⟩) + (∑ s : Fin 512, f ⟨2048 + s.val, by omega⟩) + (∑ s : Fin 512, f ⟨2560 + s.val, by omega⟩)
      + (∑ s : Fin 512, f ⟨3072 + s.val, by omega⟩) + (∑ s : Fin 512, f ⟨3584 + s.val, by omega⟩) = ∑ s, f s := by
  have h : ∑ s, f s = ∑ c : Fin 8, ∑ s : Fin 512, f ⟨512 * c.val + s.val, by omega⟩ := by
    rw [← Fintype.sum_prod_type']
    refine (Fintype.sum_equiv (finProdFinEquiv (m := 8) (n := 512)) _ _ fun p => ?_).symm
    exact congrArg f (Fin.ext (Nat.add_comm _ _))
  rw [h, Fin.sum_univ_eight, zero_add]
  rfl

/-- A sum over the eight points of a run, each over two heads and 1024 rows, is the sum over all rows of all four heads. -/
theorem sum_run {M : Type*} [AddCommMonoid M] (f : Fin 4096 → Fin 4 → M) :
    ∑ k : Fin 8, (∑ r : Fin 1024, f ⟨k.val % 4 * 1024 + r.val, by omega⟩ ⟨k.val / 4 % 2 * 2 + 0, by omega⟩
      + ∑ r : Fin 1024, f ⟨k.val % 4 * 1024 + r.val, by omega⟩ ⟨k.val / 4 % 2 * 2 + 1, by omega⟩) = ∑ r, ∑ b, f r b := by
  have h : ∀ g : Fin 4096 → M, ∑ r, g r = ∑ i : Fin 4, ∑ r : Fin 1024, g ⟨i.val * 1024 + r.val, by omega⟩ := fun g => by
    rw [← Fintype.sum_prod_type']
    refine (Fintype.sum_equiv (finProdFinEquiv (m := 4) (n := 1024)) _ _ fun p => ?_).symm
    exact congrArg g (Fin.ext ((Nat.add_comm _ _).trans (congrArg (p.2.val + ·) (Nat.mul_comm _ _))))
  rw [Finset.sum_comm, Finset.sum_congr rfl fun b _ => h fun r => f r b, Fin.sum_univ_eight]
  simp only [Fin.sum_univ_four]
  simp only [Fin.val_zero, Fin.val_one, Fin.val_two, show ((3 : Fin 8) : ℕ) = 3 from rfl, show ((4 : Fin 8) : ℕ) = 4 from rfl,
    show ((5 : Fin 8) : ℕ) = 5 from rfl, show ((6 : Fin 8) : ℕ) = 6 from rfl, show ((7 : Fin 8) : ℕ) = 7 from rfl,
    show ((3 : Fin 4) : ℕ) = 3 from rfl, Nat.reduceMod, Nat.reduceDiv, Nat.reduceMul, Nat.reduceAdd]
  simp only [show (⟨0, by omega⟩ : Fin 4) = 0 from rfl, show (⟨1, by omega⟩ : Fin 4) = 1 from rfl,
    show (⟨2, by omega⟩ : Fin 4) = 2 from rfl, show (⟨3, by omega⟩ : Fin 4) = 3 from rfl]
  ac_rfl

end Cert.Attn

end
-- ==== Proof.Point.lean ====
/- What each grid point of the attention gradient's kernel leaves in its three outputs. -/
module

public import proofs.«01_k».proof.Proof.Step
public import proofs.«01_k».proof.Proof.Chunks

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

section Query

variable (x0 : Vec Ideal S2x1024x64 .bf16) (x1 : Vec Ideal S2x64x1024 .bf16) (x2 x3 : Vec Ideal S1x4096x64 .bf16)
variable (x4 x5 : Vec Ideal S1024x128 .f32) (x6 : Vec Ideal S2x1x1024 .f32)

/-- The gradient of the block's query r, head j. -/
def dqStep (j : Fin 2) (r : Fin 1024) (d : Fin 64) : EReal :=
  (∑ s : Fin 4096, ds x0 x2 x3 x4 x5 x6 j r s * x2 (ix3 0 s d)) * Ideal.ofBits .f32 0x3E000000#32

/-- Head 0's sum over the keys, chunk by chunk. -/
theorem dq_chain_0 (r : Fin 1024) (d : Fin 64) : k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      (k0_pay30 (k0_pay5 (View.ld x0 (Rect.unit ![0, 0, 0] ![1, 1024, 64] inb_S2x1024x64_S1x1024x64_0_0_0))) (k0_pay8 x4) (k0_pay10 x4 x5)
      (k0_pay11 (View.ld x6 (Rect.unit ![0, 0, 0] ![1, 1, 1024] inb_S2x1x1024_S1x1x1024_0_0_0)))
      k0_pay12
      (k0_pay25 (View.ld x2 (Rect.unit ![0, 0, 0] ![1, 512, 64] inb_S1x4096x64_S1x512x64_0_0_0))) (View.ld x3 (Rect.unit ![0, 0, 0] ![1, 512, 64] inb_S1x4096x64_S1x512x64_0_0_0)))
      (k0_pay25 (View.ld x2 (Rect.unit ![0, 512, 0] ![1, 512, 64] inb_S1x4096x64_S1x512x64_0_512_0))) (View.ld x3 (Rect.unit ![0, 512, 0] ![1, 512, 64] inb_S1x4096x64_S1x512x64_0_512_0)))
      (k0_pay25 (View.ld x2 (Rect.unit ![0, 1024, 0] ![1, 512, 64] inb_S1x4096x64_S1x512x64_0_1024_0))) (View.ld x3 (Rect.unit ![0, 1024, 0] ![1, 512, 64] inb_S1x4096x64_S1x512x64_0_1024_0)))
      (k0_pay25 (View.ld x2 (Rect.unit ![0, 1536, 0] ![1, 512, 64] inb_S1x4096x64_S1x512x64_0_1536_0))) (View.ld x3 (Rect.unit ![0, 1536, 0] ![1, 512, 64] inb_S1x4096x64_S1x512x64_0_1536_0)))
      (k0_pay25 (View.ld x2 (Rect.unit ![0, 2048, 0] ![1, 512, 64] inb_S1x4096x64_S1x512x64_0_2048_0))) (View.ld x3 (Rect.unit ![0, 2048, 0] ![1, 512, 64] inb_S1x4096x64_S1x512x64_0_2048_0)))
      (k0_pay25 (View.ld x2 (Rect.unit ![0, 2560, 0] ![1, 512, 64] inb_S1x4096x64_S1x512x64_0_2560_0))) (View.ld x3 (Rect.unit ![0, 2560, 0] ![1, 512, 64] inb_S1x4096x64_S1x512x64_0_2560_0)))
      (k0_pay25 (View.ld x2 (Rect.unit ![0, 3072, 0] ![1, 512, 64] inb_S1x4096x64_S1x512x64_0_3072_0))) (View.ld x3 (Rect.unit ![0, 3072, 0] ![1, 512, 64] inb_S1x4096x64_S1x512x64_0_3072_0)))
      (k0_pay25 (View.ld x2 (Rect.unit ![0, 3584, 0] ![1, 512, 64] inb_S1x4096x64_S1x512x64_0_3584_0))) (View.ld x3 (Rect.unit ![0, 3584, 0] ![1, 512, 64] inb_S1x4096x64_S1x512x64_0_3584_0)) (ix2 r d)
      = ∑ s : Fin 4096, ds x0 x2 x3 x4 x5 x6 0 r s * x2 (ix3 0 s d) := by
  have hz : k0_pay12 (F := Ideal) (ix2 r d) = 0 := by pointwise [k0_pay12]
  simp only [pay30_apply, hz, ds_0 x0 x2 x3 x4 x5 x6 0 (by decide) inb_S1x4096x64_S1x512x64_0_0_0, k_chunk x2 0 (by decide) inb_S1x4096x64_S1x512x64_0_0_0, ds_0 x0 x2 x3 x4 x5 x6 512 (by decide) inb_S1x4096x64_S1x512x64_0_512_0, k_chunk x2 512 (by decide) inb_S1x4096x64_S1x512x64_0_512_0, ds_0 x0 x2 x3 x4 x5 x6 1024 (by decide) inb_S1x4096x64_S1x512x64_0_1024_0, k_chunk x2 1024 (by decide) inb_S1x4096x64_S1x512x64_0_1024_0, ds_0 x0 x2 x3 x4 x5 x6 1536 (by decide) inb_S1x4096x64_S1x512x64_0_1536_0, k_chunk x2 1536 (by decide) inb_S1x4096x64_S1x512x64_0_1536_0, ds_0 x0 x2 x3 x4 x5 x6 2048 (by decide) inb_S1x4096x64_S1x512x64_0_2048_0, k_chunk x2 2048 (by decide) inb_S1x4096x64_S1x512x64_0_2048_0, ds_0 x0 x2 x3 x4 x5 x6 2560 (by decide) inb_S1x4096x64_S1x512x64_0_2560_0, k_chunk x2 2560 (by decide) inb_S1x4096x64_S1x512x64_0_2560_0, ds_0 x0 x2 x3 x4 x5 x6 3072 (by decide) inb_S1x4096x64_S1x512x64_0_3072_0, k_chunk x2 3072 (by decide) inb_S1x4096x64_S1x512x64_0_3072_0, ds_0 x0 x2 x3 x4 x5 x6 3584 (by decide) inb_S1x4096x64_S1x512x64_0_3584_0, k_chunk x2 3584 (by decide) inb_S1x4096x64_S1x512x64_0_3584_0]
  exact Cert.Attn.sum_chunks fun s => ds x0 x2 x3 x4 x5 x6 0 r s * x2 (ix3 0 s d)

/-- Head 1's sum over the keys, chunk by chunk. -/
theorem dq_chain_1 (r : Fin 1024) (d : Fin 64) : k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      (k0_pay30 (k0_pay66 (View.ld x0 (Rect.unit ![1, 0, 0] ![1, 1024, 64] inb_S2x1024x64_S1x1024x64_1_0_0))) (k0_pay69 x4) (k0_pay71 x4 (k0_pay3 x5))
      (k0_pay72 (View.ld x6 (Rect.unit ![1, 0, 0] ![1, 1, 1024] inb_S2x1x1024_S1x1x1024_1_0_0)))
      k0_pay73
      (k0_pay25 (View.ld x2 (Rect.unit ![0, 0, 0] ![1, 512, 64] inb_S1x4096x64_S1x512x64_0_0_0))) (View.ld x3 (Rect.unit ![0, 0, 0] ![1, 512, 64] inb_S1x4096x64_S1x512x64_0_0_0)))
      (k0_pay25 (View.ld x2 (Rect.unit ![0, 512, 0] ![1, 512, 64] inb_S1x4096x64_S1x512x64_0_512_0))) (View.ld x3 (Rect.unit ![0, 512, 0] ![1, 512, 64] inb_S1x4096x64_S1x512x64_0_512_0)))
      (k0_pay25 (View.ld x2 (Rect.unit ![0, 1024, 0] ![1, 512, 64] inb_S1x4096x64_S1x512x64_0_1024_0))) (View.ld x3 (Rect.unit ![0, 1024, 0] ![1, 512, 64] inb_S1x4096x64_S1x512x64_0_1024_0)))
      (k0_pay25 (View.ld x2 (Rect.unit ![0, 1536, 0] ![1, 512, 64] inb_S1x4096x64_S1x512x64_0_1536_0))) (View.ld x3 (Rect.unit ![0, 1536, 0] ![1, 512, 64] inb_S1x4096x64_S1x512x64_0_1536_0)))
      (k0_pay25 (View.ld x2 (Rect.unit ![0, 2048, 0] ![1, 512, 64] inb_S1x4096x64_S1x512x64_0_2048_0))) (View.ld x3 (Rect.unit ![0, 2048, 0] ![1, 512, 64] inb_S1x4096x64_S1x512x64_0_2048_0)))
      (k0_pay25 (View.ld x2 (Rect.unit ![0, 2560, 0] ![1, 512, 64] inb_S1x4096x64_S1x512x64_0_2560_0))) (View.ld x3 (Rect.unit ![0, 2560, 0] ![1, 512, 64] inb_S1x4096x64_S1x512x64_0_2560_0)))
      (k0_pay25 (View.ld x2 (Rect.unit ![0, 3072, 0] ![1, 512, 64] inb_S1x4096x64_S1x512x64_0_3072_0))) (View.ld x3 (Rect.unit ![0, 3072, 0] ![1, 512, 64] inb_S1x4096x64_S1x512x64_0_3072_0)))
      (k0_pay25 (View.ld x2 (Rect.unit ![0, 3584, 0] ![1, 512, 64] inb_S1x4096x64_S1x512x64_0_3584_0))) (View.ld x3 (Rect.unit ![0, 3584, 0] ![1, 512, 64] inb_S1x4096x64_S1x512x64_0_3584_0)) (ix2 r d)
      = ∑ s : Fin 4096, ds x0 x2 x3 x4 x5 x6 1 r s * x2 (ix3 0 s d) := by
  have hz : k0_pay73 (F := Ideal) (ix2 r d) = 0 := by pointwise [k0_pay73]
  simp only [pay30_apply, hz, ds_1 x0 x2 x3 x4 x5 x6 0 (by decide) inb_S1x4096x64_S1x512x64_0_0_0, k_chunk x2 0 (by decide) inb_S1x4096x64_S1x512x64_0_0_0, ds_1 x0 x2 x3 x4 x5 x6 512 (by decide) inb_S1x4096x64_S1x512x64_0_512_0, k_chunk x2 512 (by decide) inb_S1x4096x64_S1x512x64_0_512_0, ds_1 x0 x2 x3 x4 x5 x6 1024 (by decide) inb_S1x4096x64_S1x512x64_0_1024_0, k_chunk x2 1024 (by decide) inb_S1x4096x64_S1x512x64_0_1024_0, ds_1 x0 x2 x3 x4 x5 x6 1536 (by decide) inb_S1x4096x64_S1x512x64_0_1536_0, k_chunk x2 1536 (by decide) inb_S1x4096x64_S1x512x64_0_1536_0, ds_1 x0 x2 x3 x4 x5 x6 2048 (by decide) inb_S1x4096x64_S1x512x64_0_2048_0, k_chunk x2 2048 (by decide) inb_S1x4096x64_S1x512x64_0_2048_0, ds_1 x0 x2 x3 x4 x5 x6 2560 (by decide) inb_S1x4096x64_S1x512x64_0_2560_0, k_chunk x2 2560 (by decide) inb_S1x4096x64_S1x512x64_0_2560_0, ds_1 x0 x2 x3 x4 x5 x6 3072 (by decide) inb_S1x4096x64_S1x512x64_0_3072_0, k_chunk x2 3072 (by decide) inb_S1x4096x64_S1x512x64_0_3072_0, ds_1 x0 x2 x3 x4 x5 x6 3584 (by decide) inb_S1x4096x64_S1x512x64_0_3584_0, k_chunk x2 3584 (by decide) inb_S1x4096x64_S1x512x64_0_3584_0]
  exact Cert.Attn.sum_chunks fun s => ds x0 x2 x3 x4 x5 x6 1 r s * x2 (ix3 0 s d)

theorem pay65_apply (v20 v24 : FVec Ideal S1024x64 .bf16) (v33 v39 : FVec Ideal S1024x512 .f32) (v98 : FVec Ideal S512x64 .bf16)
    (v99 : Vec Ideal S1x512x64 .bf16) (acc : FVec Ideal S1024x64 .f32) (r : Fin 1024) (d : Fin 64) :
    k0_pay65 acc v98 (k0_pay27 v20 v24 v33 v39 v98 v99) (ix2 r d) = k0_pay30 v20 v24 v33 v39 acc v98 v99 (ix2 r d) * Ideal.ofBits .f32 0x3E000000#32 := rfl

theorem pay127_0 (v266 : FVec Ideal S1024x64 .f32) (v268 v272 : FVec Ideal S1024x64 .bf16) (v281 v287 : FVec Ideal S1024x512 .f32)
    (v484 : FVec Ideal S1024x64 .f32) (v485 v487 : Vec Ideal S1x512x64 .bf16) (r : Fin 1024) (d : Fin 64) :
    k0_pay127 v266 v268 v272 v281 v287 v484 v485 v487 (ix2 r (lane 0 d)) = v266 (ix2 r d) := by
  have hd : (lane 0 d).val < 64 := by show 0 * 64 + d.val < 64; omega
  have e : (⟨(lane 0 d).val, hd⟩ : Fin 64) = d := by apply Fin.ext; show 0 * 64 + d.val = d.val; omega
  pointwise [k0_pay127]
  rw [dif_pos hd, e]

theorem pay127_1 (v266 : FVec Ideal S1024x64 .f32) (v268 v272 : FVec Ideal S1024x64 .bf16) (v281 v287 : FVec Ideal S1024x512 .f32)
    (v484 : FVec Ideal S1024x64 .f32) (v485 v487 : Vec Ideal S1x512x64 .bf16) (r : Fin 1024) (d : Fin 64) :
    k0_pay127 v266 v268 v272 v281 v287 v484 v485 v487 (ix2 r (lane 1 d)) =
      k0_pay30 v268 v272 v281 v287 v484 (k0_pay25 v485) v487 (ix2 r d) * Ideal.ofBits .f32 0x3E000000#32 := by
  have h : k0_pay127 v266 v268 v272 v281 v287 v484 v485 v487 = concatenate S1024x128 1 [⟨S1024x64, v266⟩, ⟨S1024x64,
      mulf (k0_pay30 v268 v272 v281 v287 v484 (k0_pay25 v485) v487) (broadcast S1024x64 (Scalar.ofBits .f32 0x3E000000#32))⟩] concatenates_S1024x64_S1024x64_S1024x128_d1 := rfl
  have hd : ¬ (lane 1 d).val < 64 := by show ¬ 1 * 64 + d.val < 64; omega
  have e : (lane 1 d).val - 64 = d.val := by show 1 * 64 + d.val - 64 = d.val; omega
  rw [h]
  pointwise []
  rw [dif_neg hd]
  simp only [e]

end Query

/-- The last eight stores cover dkᵀ's and dvᵀ's block. -/
theorem chunks_cover (d : Fin 64) (s : Fin 4096) (p0 p1 p2 p3 p4 p5 p6 p7 : S1x64x512.Idx → EReal) :
    ∃ p ∈ ([⟨Rect.unit ![0, 0, 3584] ![1, 64, 512] inb_S1x64x4096_S1x64x512_0_0_3584, p7⟩,
      ⟨Rect.unit ![0, 0, 3072] ![1, 64, 512] inb_S1x64x4096_S1x64x512_0_0_3072, p6⟩,
      ⟨Rect.unit ![0, 0, 2560] ![1, 64, 512] inb_S1x64x4096_S1x64x512_0_0_2560, p5⟩,
      ⟨Rect.unit ![0, 0, 2048] ![1, 64, 512] inb_S1x64x4096_S1x64x512_0_0_2048, p4⟩,
      ⟨Rect.unit ![0, 0, 1536] ![1, 64, 512] inb_S1x64x4096_S1x64x512_0_0_1536, p3⟩,
      ⟨Rect.unit ![0, 0, 1024] ![1, 64, 512] inb_S1x64x4096_S1x64x512_0_0_1024, p2⟩,
      ⟨Rect.unit ![0, 0, 512] ![1, 64, 512] inb_S1x64x4096_S1x64x512_0_0_512, p1⟩,
      ⟨Rect.unit ![0, 0, 0] ![1, 64, 512] inb_S1x64x4096_S1x64x512_0_0_0, p0⟩] : List (View.Piece (Elt Ideal) S1x64x4096 .f32)),
      (ix3 0 d s : S1x64x4096.Idx) ∈ p.1.set := by
  have hs := s.isLt
  rcases (by omega : s.val < 512 ∨ 512 ≤ s.val ∧ s.val < 1024 ∨ 1024 ≤ s.val ∧ s.val < 1536 ∨ 1536 ≤ s.val ∧ s.val < 2048 ∨
    2048 ≤ s.val ∧ s.val < 2560 ∨ 2560 ≤ s.val ∧ s.val < 3072 ∨ 3072 ≤ s.val ∧ s.val < 3584 ∨ 3584 ≤ s.val) with h | h | h | h | h | h | h | h
  · exact ⟨_, List.mem_of_getElem? (i := 7) rfl, mem_chunk 0 inb_S1x64x4096_S1x64x512_0_0_0 d s (by omega) (by omega)⟩
  · exact ⟨_, List.mem_of_getElem? (i := 6) rfl, mem_chunk 512 inb_S1x64x4096_S1x64x512_0_0_512 d s (by omega) (by omega)⟩
  · exact ⟨_, List.mem_of_getElem? (i := 5) rfl, mem_chunk 1024 inb_S1x64x4096_S1x64x512_0_0_1024 d s (by omega) (by omega)⟩
  · exact ⟨_, List.mem_of_getElem? (i := 4) rfl, mem_chunk 1536 inb_S1x64x4096_S1x64x512_0_0_1536 d s (by omega) (by omega)⟩
  · exact ⟨_, List.mem_of_getElem? (i := 3) rfl, mem_chunk 2048 inb_S1x64x4096_S1x64x512_0_0_2048 d s (by omega) (by omega)⟩
  · exact ⟨_, List.mem_of_getElem? (i := 2) rfl, mem_chunk 2560 inb_S1x64x4096_S1x64x512_0_0_2560 d s (by omega) (by omega)⟩
  · exact ⟨_, List.mem_of_getElem? (i := 1) rfl, mem_chunk 3072 inb_S1x64x4096_S1x64x512_0_0_3072 d s (by omega) (by omega)⟩
  · exact ⟨_, List.mem_of_getElem? (i := 0) rfl, mem_chunk 3584 inb_S1x64x4096_S1x64x512_0_0_3584 d s (by omega) (by omega)⟩

variable (m : (ℓ : Loc nD τ sig) → Buf (Elt Ideal) ℓ)

theorem dv_B (c : Dev nD) (t : Fin cfg0.N) (h0 : ¬t.val % 8 = 0) (d : Fin 64) (s : Fin 4096) :
    (outsAt0 m c t.val t.isLt).2.2 (ix3 0 d s) = dvStep (iblk m c 0 t) (iblk m c 2 t) (iblk m c 4 t) (iblk m c 6 t) ((outsAt0 m c (t.val - 1) (by omega)).2.2) d s := by
  rw [outsAt0_B m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (outsAt0 m c (t.val - 1) _).2.1 = a8
  generalize (outsAt0 m c (t.val - 1) _).2.2 = a9
  frame_open
  simp (disch := decide) only [↓ View.readCov_skip, ↓ View.readCov_cons_toLoadRect, ↓ View.readCov_fill]
  frame_out
  refine View.canon_append_of_piecesOf (Val := Elt Ideal) (e := .f32) (fun y : S1x64x4096.Idx => dvStep x0 x2 x4 x6 a9 (y 1) (y 2))
    [_, _, _, _, _, _, _, _] [_, _, _, _, _, _, _, _] ?_ (ix3 0 d s) (chunks_cover d s _ _ _ _ _ _ _ _)
  refine ⟨?_, ?_, ?_, ?_, ?_, ?_, ?_, ?_, trivial⟩ <;> (intro w; idx_vars w; obtain rfl : w0 = 0 := Subsingleton.elim _ _)
  · exact (dv_piece x0 x2 x4 x6 a9 3584 (by decide) inb_S1x4096x64_S1x512x64_0_3584_0 inb_S1x64x4096_S1x64x512_0_0_3584 w1 w2).trans
      (congrArg₂ (dvStep x0 x2 x4 x6 a9) (emb_chunk_1 3584 _ w1 w2) (emb_chunk_2 3584 (by decide) _ w1 w2)).symm
  · exact (dv_piece x0 x2 x4 x6 a9 3072 (by decide) inb_S1x4096x64_S1x512x64_0_3072_0 inb_S1x64x4096_S1x64x512_0_0_3072 w1 w2).trans
      (congrArg₂ (dvStep x0 x2 x4 x6 a9) (emb_chunk_1 3072 _ w1 w2) (emb_chunk_2 3072 (by decide) _ w1 w2)).symm
  · exact (dv_piece x0 x2 x4 x6 a9 2560 (by decide) inb_S1x4096x64_S1x512x64_0_2560_0 inb_S1x64x4096_S1x64x512_0_0_2560 w1 w2).trans
      (congrArg₂ (dvStep x0 x2 x4 x6 a9) (emb_chunk_1 2560 _ w1 w2) (emb_chunk_2 2560 (by decide) _ w1 w2)).symm
  · exact (dv_piece x0 x2 x4 x6 a9 2048 (by decide) inb_S1x4096x64_S1x512x64_0_2048_0 inb_S1x64x4096_S1x64x512_0_0_2048 w1 w2).trans
      (congrArg₂ (dvStep x0 x2 x4 x6 a9) (emb_chunk_1 2048 _ w1 w2) (emb_chunk_2 2048 (by decide) _ w1 w2)).symm
  · exact (dv_piece x0 x2 x4 x6 a9 1536 (by decide) inb_S1x4096x64_S1x512x64_0_1536_0 inb_S1x64x4096_S1x64x512_0_0_1536 w1 w2).trans
      (congrArg₂ (dvStep x0 x2 x4 x6 a9) (emb_chunk_1 1536 _ w1 w2) (emb_chunk_2 1536 (by decide) _ w1 w2)).symm
  · exact (dv_piece x0 x2 x4 x6 a9 1024 (by decide) inb_S1x4096x64_S1x512x64_0_1024_0 inb_S1x64x4096_S1x64x512_0_0_1024 w1 w2).trans
      (congrArg₂ (dvStep x0 x2 x4 x6 a9) (emb_chunk_1 1024 _ w1 w2) (emb_chunk_2 1024 (by decide) _ w1 w2)).symm
  · exact (dv_piece x0 x2 x4 x6 a9 512 (by decide) inb_S1x4096x64_S1x512x64_0_512_0 inb_S1x64x4096_S1x64x512_0_0_512 w1 w2).trans
      (congrArg₂ (dvStep x0 x2 x4 x6 a9) (emb_chunk_1 512 _ w1 w2) (emb_chunk_2 512 (by decide) _ w1 w2)).symm
  · exact (dv_piece x0 x2 x4 x6 a9 0 (by decide) inb_S1x4096x64_S1x512x64_0_0_0 inb_S1x64x4096_S1x64x512_0_0_0 w1 w2).trans
      (congrArg₂ (dvStep x0 x2 x4 x6 a9) (emb_chunk_1 0 _ w1 w2) (emb_chunk_2 0 (by decide) _ w1 w2)).symm

theorem dk_B (c : Dev nD) (t : Fin cfg0.N) (h0 : ¬t.val % 8 = 0) (d : Fin 64) (s : Fin 4096) :
    (outsAt0 m c t.val t.isLt).2.1 (ix3 0 d s) = dkStep (iblk m c 0 t) (iblk m c 1 t) (iblk m c 2 t) (iblk m c 3 t) (iblk m c 4 t) (iblk m c 5 t) (iblk m c 6 t) ((outsAt0 m c (t.val - 1) (by omega)).2.1) d s := by
  rw [outsAt0_B m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (outsAt0 m c (t.val - 1) _).2.1 = a8
  generalize (outsAt0 m c (t.val - 1) _).2.2 = a9
  frame_open
  simp (disch := decide) only [↓ View.readCov_skip, ↓ View.readCov_cons_toLoadRect, ↓ View.readCov_fill]
  frame_out
  refine View.canon_append_of_piecesOf (Val := Elt Ideal) (e := .f32) (fun y : S1x64x4096.Idx => dkStep x0 x1 x2 x3 x4 x5 x6 a8 (y 1) (y 2))
    [_, _, _, _, _, _, _, _] [_, _, _, _, _, _, _, _] ?_ (ix3 0 d s) (chunks_cover d s _ _ _ _ _ _ _ _)
  refine ⟨?_, ?_, ?_, ?_, ?_, ?_, ?_, ?_, trivial⟩ <;> (intro w; idx_vars w; obtain rfl : w0 = 0 := Subsingleton.elim _ _)
  · exact (dk_piece x0 x1 x2 x3 x4 x5 x6 a8 3584 (by decide) inb_S1x4096x64_S1x512x64_0_3584_0 inb_S1x64x4096_S1x64x512_0_0_3584 w1 w2).trans
      (congrArg₂ (dkStep x0 x1 x2 x3 x4 x5 x6 a8) (emb_chunk_1 3584 _ w1 w2) (emb_chunk_2 3584 (by decide) _ w1 w2)).symm
  · exact (dk_piece x0 x1 x2 x3 x4 x5 x6 a8 3072 (by decide) inb_S1x4096x64_S1x512x64_0_3072_0 inb_S1x64x4096_S1x64x512_0_0_3072 w1 w2).trans
      (congrArg₂ (dkStep x0 x1 x2 x3 x4 x5 x6 a8) (emb_chunk_1 3072 _ w1 w2) (emb_chunk_2 3072 (by decide) _ w1 w2)).symm
  · exact (dk_piece x0 x1 x2 x3 x4 x5 x6 a8 2560 (by decide) inb_S1x4096x64_S1x512x64_0_2560_0 inb_S1x64x4096_S1x64x512_0_0_2560 w1 w2).trans
      (congrArg₂ (dkStep x0 x1 x2 x3 x4 x5 x6 a8) (emb_chunk_1 2560 _ w1 w2) (emb_chunk_2 2560 (by decide) _ w1 w2)).symm
  · exact (dk_piece x0 x1 x2 x3 x4 x5 x6 a8 2048 (by decide) inb_S1x4096x64_S1x512x64_0_2048_0 inb_S1x64x4096_S1x64x512_0_0_2048 w1 w2).trans
      (congrArg₂ (dkStep x0 x1 x2 x3 x4 x5 x6 a8) (emb_chunk_1 2048 _ w1 w2) (emb_chunk_2 2048 (by decide) _ w1 w2)).symm
  · exact (dk_piece x0 x1 x2 x3 x4 x5 x6 a8 1536 (by decide) inb_S1x4096x64_S1x512x64_0_1536_0 inb_S1x64x4096_S1x64x512_0_0_1536 w1 w2).trans
      (congrArg₂ (dkStep x0 x1 x2 x3 x4 x5 x6 a8) (emb_chunk_1 1536 _ w1 w2) (emb_chunk_2 1536 (by decide) _ w1 w2)).symm
  · exact (dk_piece x0 x1 x2 x3 x4 x5 x6 a8 1024 (by decide) inb_S1x4096x64_S1x512x64_0_1024_0 inb_S1x64x4096_S1x64x512_0_0_1024 w1 w2).trans
      (congrArg₂ (dkStep x0 x1 x2 x3 x4 x5 x6 a8) (emb_chunk_1 1024 _ w1 w2) (emb_chunk_2 1024 (by decide) _ w1 w2)).symm
  · exact (dk_piece x0 x1 x2 x3 x4 x5 x6 a8 512 (by decide) inb_S1x4096x64_S1x512x64_0_512_0 inb_S1x64x4096_S1x64x512_0_0_512 w1 w2).trans
      (congrArg₂ (dkStep x0 x1 x2 x3 x4 x5 x6 a8) (emb_chunk_1 512 _ w1 w2) (emb_chunk_2 512 (by decide) _ w1 w2)).symm
  · exact (dk_piece x0 x1 x2 x3 x4 x5 x6 a8 0 (by decide) inb_S1x4096x64_S1x512x64_0_0_0 inb_S1x64x4096_S1x64x512_0_0_0 w1 w2).trans
      (congrArg₂ (dkStep x0 x1 x2 x3 x4 x5 x6 a8) (emb_chunk_1 0 _ w1 w2) (emb_chunk_2 0 (by decide) _ w1 w2)).symm

theorem dq_B0 (c : Dev nD) (t : Fin cfg0.N) (h0 : ¬t.val % 8 = 0) (r : Fin 1024) (d : Fin 64) :
    (outsAt0 m c t.val t.isLt).1 (ix2 r (lane 0 d)) = dqStep (iblk m c 0 t) (iblk m c 2 t) (iblk m c 3 t) (iblk m c 4 t) (iblk m c 5 t) (iblk m c 6 t) 0 r d := by
  rw [outsAt0_B m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (outsAt0 m c (t.val - 1) _).2.1 = a8
  generalize (outsAt0 m c (t.val - 1) _).2.2 = a9
  frame_open
  frame_out
  exact (pay127_0 _ _ _ _ _ _ _ _ r d).trans (congrArg (· * Ideal.ofBits .f32 0x3E000000#32) (dq_chain_0 x0 x2 x3 x4 x5 x6 r d))

theorem dq_B1 (c : Dev nD) (t : Fin cfg0.N) (h0 : ¬t.val % 8 = 0) (r : Fin 1024) (d : Fin 64) :
    (outsAt0 m c t.val t.isLt).1 (ix2 r (lane 1 d)) = dqStep (iblk m c 0 t) (iblk m c 2 t) (iblk m c 3 t) (iblk m c 4 t) (iblk m c 5 t) (iblk m c 6 t) 1 r d := by
  rw [outsAt0_B m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize (outsAt0 m c (t.val - 1) _).2.1 = a8
  generalize (outsAt0 m c (t.val - 1) _).2.2 = a9
  frame_open
  frame_out
  exact (pay127_1 _ _ _ _ _ _ _ _ r d).trans (congrArg (· * Ideal.ofBits .f32 0x3E000000#32) (dq_chain_1 x0 x2 x3 x4 x5 x6 r d))

theorem dv_A (c : Dev nD) (t : Fin cfg0.N) (h0 : t.val % 8 = 0) (d : Fin 64) (s : Fin 4096) :
    (outsAt0 m c t.val t.isLt).2.2 (ix3 0 d s) = dvStep (iblk m c 0 t) (iblk m c 2 t) (iblk m c 4 t) (iblk m c 6 t) (k0_pay2 (F := Ideal)) d s := by
  rw [outsAt0_A m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  simp (disch := decide) only [↓ View.readCov_skip, ↓ View.readCov_cons_toLoadRect, ↓ View.readCov_fill]
  frame_out
  refine View.canon_append_of_piecesOf (Val := Elt Ideal) (e := .f32) (fun y : S1x64x4096.Idx => dvStep x0 x2 x4 x6 (k0_pay2 (F := Ideal)) (y 1) (y 2))
    [_, _, _, _, _, _, _, _, _] [_, _, _, _, _, _, _, _] ?_ (ix3 0 d s) (chunks_cover d s _ _ _ _ _ _ _ _)
  refine ⟨?_, ?_, ?_, ?_, ?_, ?_, ?_, ?_, trivial⟩ <;> (intro w; idx_vars w; obtain rfl : w0 = 0 := Subsingleton.elim _ _)
  · exact (dv_piece x0 x2 x4 x6 (k0_pay2 (F := Ideal)) 3584 (by decide) inb_S1x4096x64_S1x512x64_0_3584_0 inb_S1x64x4096_S1x64x512_0_0_3584 w1 w2).trans
      (congrArg₂ (dvStep x0 x2 x4 x6 (k0_pay2 (F := Ideal))) (emb_chunk_1 3584 _ w1 w2) (emb_chunk_2 3584 (by decide) _ w1 w2)).symm
  · exact (dv_piece x0 x2 x4 x6 (k0_pay2 (F := Ideal)) 3072 (by decide) inb_S1x4096x64_S1x512x64_0_3072_0 inb_S1x64x4096_S1x64x512_0_0_3072 w1 w2).trans
      (congrArg₂ (dvStep x0 x2 x4 x6 (k0_pay2 (F := Ideal))) (emb_chunk_1 3072 _ w1 w2) (emb_chunk_2 3072 (by decide) _ w1 w2)).symm
  · exact (dv_piece x0 x2 x4 x6 (k0_pay2 (F := Ideal)) 2560 (by decide) inb_S1x4096x64_S1x512x64_0_2560_0 inb_S1x64x4096_S1x64x512_0_0_2560 w1 w2).trans
      (congrArg₂ (dvStep x0 x2 x4 x6 (k0_pay2 (F := Ideal))) (emb_chunk_1 2560 _ w1 w2) (emb_chunk_2 2560 (by decide) _ w1 w2)).symm
  · exact (dv_piece x0 x2 x4 x6 (k0_pay2 (F := Ideal)) 2048 (by decide) inb_S1x4096x64_S1x512x64_0_2048_0 inb_S1x64x4096_S1x64x512_0_0_2048 w1 w2).trans
      (congrArg₂ (dvStep x0 x2 x4 x6 (k0_pay2 (F := Ideal))) (emb_chunk_1 2048 _ w1 w2) (emb_chunk_2 2048 (by decide) _ w1 w2)).symm
  · exact (dv_piece x0 x2 x4 x6 (k0_pay2 (F := Ideal)) 1536 (by decide) inb_S1x4096x64_S1x512x64_0_1536_0 inb_S1x64x4096_S1x64x512_0_0_1536 w1 w2).trans
      (congrArg₂ (dvStep x0 x2 x4 x6 (k0_pay2 (F := Ideal))) (emb_chunk_1 1536 _ w1 w2) (emb_chunk_2 1536 (by decide) _ w1 w2)).symm
  · exact (dv_piece x0 x2 x4 x6 (k0_pay2 (F := Ideal)) 1024 (by decide) inb_S1x4096x64_S1x512x64_0_1024_0 inb_S1x64x4096_S1x64x512_0_0_1024 w1 w2).trans
      (congrArg₂ (dvStep x0 x2 x4 x6 (k0_pay2 (F := Ideal))) (emb_chunk_1 1024 _ w1 w2) (emb_chunk_2 1024 (by decide) _ w1 w2)).symm
  · exact (dv_piece x0 x2 x4 x6 (k0_pay2 (F := Ideal)) 512 (by decide) inb_S1x4096x64_S1x512x64_0_512_0 inb_S1x64x4096_S1x64x512_0_0_512 w1 w2).trans
      (congrArg₂ (dvStep x0 x2 x4 x6 (k0_pay2 (F := Ideal))) (emb_chunk_1 512 _ w1 w2) (emb_chunk_2 512 (by decide) _ w1 w2)).symm
  · exact (dv_piece x0 x2 x4 x6 (k0_pay2 (F := Ideal)) 0 (by decide) inb_S1x4096x64_S1x512x64_0_0_0 inb_S1x64x4096_S1x64x512_0_0_0 w1 w2).trans
      (congrArg₂ (dvStep x0 x2 x4 x6 (k0_pay2 (F := Ideal))) (emb_chunk_1 0 _ w1 w2) (emb_chunk_2 0 (by decide) _ w1 w2)).symm

theorem dk_A (c : Dev nD) (t : Fin cfg0.N) (h0 : t.val % 8 = 0) (d : Fin 64) (s : Fin 4096) :
    (outsAt0 m c t.val t.isLt).2.1 (ix3 0 d s) = dkStep (iblk m c 0 t) (iblk m c 1 t) (iblk m c 2 t) (iblk m c 3 t) (iblk m c 4 t) (iblk m c 5 t) (iblk m c 6 t) (k0_pay1 (F := Ideal)) d s := by
  rw [outsAt0_A m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  simp (disch := decide) only [↓ View.readCov_skip, ↓ View.readCov_cons_toLoadRect, ↓ View.readCov_fill]
  frame_out
  refine View.canon_append_of_piecesOf (Val := Elt Ideal) (e := .f32) (fun y : S1x64x4096.Idx => dkStep x0 x1 x2 x3 x4 x5 x6 (k0_pay1 (F := Ideal)) (y 1) (y 2))
    [_, _, _, _, _, _, _, _, _] [_, _, _, _, _, _, _, _] ?_ (ix3 0 d s) (chunks_cover d s _ _ _ _ _ _ _ _)
  refine ⟨?_, ?_, ?_, ?_, ?_, ?_, ?_, ?_, trivial⟩ <;> (intro w; idx_vars w; obtain rfl : w0 = 0 := Subsingleton.elim _ _)
  · exact (dk_piece x0 x1 x2 x3 x4 x5 x6 (k0_pay1 (F := Ideal)) 3584 (by decide) inb_S1x4096x64_S1x512x64_0_3584_0 inb_S1x64x4096_S1x64x512_0_0_3584 w1 w2).trans
      (congrArg₂ (dkStep x0 x1 x2 x3 x4 x5 x6 (k0_pay1 (F := Ideal))) (emb_chunk_1 3584 _ w1 w2) (emb_chunk_2 3584 (by decide) _ w1 w2)).symm
  · exact (dk_piece x0 x1 x2 x3 x4 x5 x6 (k0_pay1 (F := Ideal)) 3072 (by decide) inb_S1x4096x64_S1x512x64_0_3072_0 inb_S1x64x4096_S1x64x512_0_0_3072 w1 w2).trans
      (congrArg₂ (dkStep x0 x1 x2 x3 x4 x5 x6 (k0_pay1 (F := Ideal))) (emb_chunk_1 3072 _ w1 w2) (emb_chunk_2 3072 (by decide) _ w1 w2)).symm
  · exact (dk_piece x0 x1 x2 x3 x4 x5 x6 (k0_pay1 (F := Ideal)) 2560 (by decide) inb_S1x4096x64_S1x512x64_0_2560_0 inb_S1x64x4096_S1x64x512_0_0_2560 w1 w2).trans
      (congrArg₂ (dkStep x0 x1 x2 x3 x4 x5 x6 (k0_pay1 (F := Ideal))) (emb_chunk_1 2560 _ w1 w2) (emb_chunk_2 2560 (by decide) _ w1 w2)).symm
  · exact (dk_piece x0 x1 x2 x3 x4 x5 x6 (k0_pay1 (F := Ideal)) 2048 (by decide) inb_S1x4096x64_S1x512x64_0_2048_0 inb_S1x64x4096_S1x64x512_0_0_2048 w1 w2).trans
      (congrArg₂ (dkStep x0 x1 x2 x3 x4 x5 x6 (k0_pay1 (F := Ideal))) (emb_chunk_1 2048 _ w1 w2) (emb_chunk_2 2048 (by decide) _ w1 w2)).symm
  · exact (dk_piece x0 x1 x2 x3 x4 x5 x6 (k0_pay1 (F := Ideal)) 1536 (by decide) inb_S1x4096x64_S1x512x64_0_1536_0 inb_S1x64x4096_S1x64x512_0_0_1536 w1 w2).trans
      (congrArg₂ (dkStep x0 x1 x2 x3 x4 x5 x6 (k0_pay1 (F := Ideal))) (emb_chunk_1 1536 _ w1 w2) (emb_chunk_2 1536 (by decide) _ w1 w2)).symm
  · exact (dk_piece x0 x1 x2 x3 x4 x5 x6 (k0_pay1 (F := Ideal)) 1024 (by decide) inb_S1x4096x64_S1x512x64_0_1024_0 inb_S1x64x4096_S1x64x512_0_0_1024 w1 w2).trans
      (congrArg₂ (dkStep x0 x1 x2 x3 x4 x5 x6 (k0_pay1 (F := Ideal))) (emb_chunk_1 1024 _ w1 w2) (emb_chunk_2 1024 (by decide) _ w1 w2)).symm
  · exact (dk_piece x0 x1 x2 x3 x4 x5 x6 (k0_pay1 (F := Ideal)) 512 (by decide) inb_S1x4096x64_S1x512x64_0_512_0 inb_S1x64x4096_S1x64x512_0_0_512 w1 w2).trans
      (congrArg₂ (dkStep x0 x1 x2 x3 x4 x5 x6 (k0_pay1 (F := Ideal))) (emb_chunk_1 512 _ w1 w2) (emb_chunk_2 512 (by decide) _ w1 w2)).symm
  · exact (dk_piece x0 x1 x2 x3 x4 x5 x6 (k0_pay1 (F := Ideal)) 0 (by decide) inb_S1x4096x64_S1x512x64_0_0_0 inb_S1x64x4096_S1x64x512_0_0_0 w1 w2).trans
      (congrArg₂ (dkStep x0 x1 x2 x3 x4 x5 x6 (k0_pay1 (F := Ideal))) (emb_chunk_1 0 _ w1 w2) (emb_chunk_2 0 (by decide) _ w1 w2)).symm

theorem dq_A0 (c : Dev nD) (t : Fin cfg0.N) (h0 : t.val % 8 = 0) (r : Fin 1024) (d : Fin 64) :
    (outsAt0 m c t.val t.isLt).1 (ix2 r (lane 0 d)) = dqStep (iblk m c 0 t) (iblk m c 2 t) (iblk m c 3 t) (iblk m c 4 t) (iblk m c 5 t) (iblk m c 6 t) 0 r d := by
  rw [outsAt0_A m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  frame_out
  exact (pay127_0 _ _ _ _ _ _ _ _ r d).trans (congrArg (· * Ideal.ofBits .f32 0x3E000000#32) (dq_chain_0 x0 x2 x3 x4 x5 x6 r d))

theorem dq_A1 (c : Dev nD) (t : Fin cfg0.N) (h0 : t.val % 8 = 0) (r : Fin 1024) (d : Fin 64) :
    (outsAt0 m c t.val t.isLt).1 (ix2 r (lane 1 d)) = dqStep (iblk m c 0 t) (iblk m c 2 t) (iblk m c 3 t) (iblk m c 4 t) (iblk m c 5 t) (iblk m c 6 t) 1 r d := by
  rw [outsAt0_A m c t h0]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  frame_out
  exact (pay127_1 _ _ _ _ _ _ _ _ r d).trans (congrArg (· * Ideal.ofBits .f32 0x3E000000#32) (dq_chain_1 x0 x2 x3 x4 x5 x6 r d))

end Cert.KernelIdeal.Value

end

end
-- ==== Proof.Blocks.lean ====
/- The blocks a grid point of the attention gradient's kernel reads: two query heads, 1024 query rows, and their key and value head whole. -/
module

public import proofs.«01_k».proof.Proof.HostValue
public import proofs.«01_k».proof.Proof.Point

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Attn

/-- Where each window stands at each grid point. -/
theorem idx : ∀ t : Fin cfg0.N,
    win0_0.index t = ![t.val / 4, t.val % 4, 0] ∧ win0_1.index t = ![t.val / 4, 0, t.val % 4] ∧
    win0_2.index t = ![t.val / 8, 0, 0] ∧ win0_3.index t = ![t.val / 8, 0, 0] ∧
    win0_4.index t = ![t.val % 4, t.val / 4] ∧ win0_5.index t = ![t.val % 4, t.val / 4] ∧
    win0_6.index t = ![t.val / 4, 0, t.val % 4] ∧ win0_7.index t = ![t.val % 4, t.val / 4] ∧
    win0_8.index t = ![t.val / 8, 0, 0] ∧ win0_9.index t = ![t.val / 8, 0, 0] := (by decide +kernel : ∀ t : Fin grid0.N, _)

theorem points (t : Fin cfg0.N) : t.val < 16 := t.isLt

/-- The key and value head of point t. -/
def gg (t : Fin cfg0.N) : Fin 2 := ⟨t.val / 8, by have := points t; omega⟩

/-- The j-th of its query heads, within the key head's group of four. -/
def bb (t : Fin cfg0.N) (j : Fin 2) : Fin 4 := ⟨t.val / 4 % 2 * 2 + j.val, by omega⟩

/-- Its r-th query row. -/
def rr (t : Fin cfg0.N) (r : Fin 1024) : Fin 4096 := ⟨t.val % 4 * 1024 + r.val, by omega⟩

variable (m : (ℓ : Loc nD τ sig) → Buf (Elt Ideal) ℓ) (c : Dev nD) (t : Fin cfg0.N)

theorem block0 (j : Fin 2) (r : Fin 1024) (d : Fin 64) :
    iblk m c 0 t (ix3 j r d) = V m c main_v7 (ix3 (hd (gg t) (bb t j)) (rr t r) d) := by
  have := points t
  unfold hd gg bb rr
  blk_ext [iblk, idx t]

theorem block1 (j : Fin 2) (d : Fin 64) (r : Fin 1024) :
    iblk m c 1 t (ix3 j d r) = V m c main_v8 (ix3 (hd (gg t) (bb t j)) d (rr t r)) := by
  have := points t
  unfold hd gg bb rr
  blk_ext [iblk, idx t]

theorem block2 (s : Fin 4096) (d : Fin 64) : iblk m c 2 t (ix3 0 s d) = V m c main_v4 (ix3 (gg t) s d) := by
  have := points t
  unfold gg
  blk_ext [iblk, idx t]

theorem block3 (s : Fin 4096) (d : Fin 64) : iblk m c 3 t (ix3 0 s d) = V m c main_v6 (ix3 (gg t) s d) := by
  have := points t
  unfold gg
  blk_ext [iblk, idx t]

theorem block4 (r : Fin 1024) (j : Fin 2) (d : Fin 64) :
    iblk m c 4 t (ix2 r (lane j d)) = m ((c : Thread nD τ).loc main_arg3) (ix2 (rr t r) (ln (gg t) (bb t j) d)) := by
  have := points t
  unfold ln gg bb rr lane
  blk_ext [iblk, V, idx t]

theorem block5 (r : Fin 1024) (j : Fin 2) (d : Fin 64) :
    iblk m c 5 t (ix2 r (lane j d)) = V m c main_v27 (ix2 (rr t r) (ln (gg t) (bb t j) d)) := by
  have := points t
  unfold ln gg bb rr lane
  blk_ext [iblk, idx t]

theorem block6 (j : Fin 2) (r : Fin 1024) :
    iblk m c 6 t (ix3 j (0 : Fin 1) r) = V m c main_v42 (ix3 (hd (gg t) (bb t j)) (0 : Fin 1) (rr t r)) := by
  have := points t
  obtain ⟨-, -, -, -, -, -, h, -⟩ := idx t
  have e : ∀ a : Fin 3, (((win0_6.rect t).emb (ix3 j (0 : Fin 1) r) a : ℕ)) = ((ix3 (hd (gg t) (bb t j)) (0 : Fin 1) (rr t r) : S8x1x4096.Idx) a : ℕ) := by
    intro a
    rw [win0_6.rect_emb_val t _ a, h]
    unfold hd gg bb rr
    match a with
    | 0 => show t.val / 4 * 2 + j.val = t.val / 8 * 4 + (t.val / 4 % 2 * 2 + j.val); omega
    | 1 => rfl
    | 2 => rfl
  generalize hd (gg t) (bb t j) = h at e ⊢
  generalize rr t r = r' at e ⊢
  rw [iblk, View.read_apply]
  generalize V m c = A
  have e2 : ((cfg0.win 6).blk t).view.emb (ix3 j (0 : Fin 1) r) = (ix3 h (0 : Fin 1) r' : S8x1x4096.Idx) := funext fun a => Fin.ext (e a)
  rw [e2]
  exact eq_of_heq ((cast_heq _ _).trans HEq.rfl)
end Cert.KernelIdeal.Value

end

end
-- ==== Proof.PointValue.lean ====
/- What each grid point of the attention gradient's kernel computes, over real arguments. -/
module

public import proofs.«01_k».proof.Proof.Blocks

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Attn

variable {m : (ℓ : Loc nD τ sig) → Buf (Elt Ideal) ℓ} {c : Dev nD}

section

variable {Q : Fin 4096 → Fin 8 → Fin 64 → ℝ} {K V' : Fin 4096 → Fin 2 → Fin 64 → ℝ} {C : Fin 4096 → Fin 512 → ℝ}
variable (hq : ∀ r h d, m ((c : Thread nD τ).loc main_arg0) (ix3 r h d) = (Q r h d : EReal))
variable (hk : ∀ s g d, m ((c : Thread nD τ).loc main_arg1) (ix3 s g d) = (K s g d : EReal))
variable (hv : ∀ s g d, m ((c : Thread nD τ).loc main_arg2) (ix3 s g d) = (V' s g d : EReal))
variable (hc : ∀ r l, m ((c : Thread nD τ).loc main_arg3) (ix2 r l) = (C r l : EReal))
variable (t : Fin cfg0.N) (j : Fin 2)

include hq in
theorem x0_val (r : Fin 1024) (d : Fin 64) :
    iblk m c 0 t (ix3 j r d) = ((Q (rr t r) (hd (gg t) (bb t j)) d * (1 / 8) : ℝ) : EReal) := by
  rw [block0, V_q, qHeads_apply hq]

include hq in
theorem x1_val (d : Fin 64) (r : Fin 1024) :
    iblk m c 1 t (ix3 j d r) = ((Q (rr t r) (hd (gg t) (bb t j)) d * (1 / 8) : ℝ) : EReal) := by
  rw [block1, V_qt, qHeadsT_apply hq]

include hk in
theorem x2_val (s : Fin 4096) (d : Fin 64) : iblk m c 2 t (ix3 0 s d) = (K s (gg t) d : EReal) := by
  rw [block2, V_k, kvHeads_apply hk]

include hv in
theorem x3_val (s : Fin 4096) (d : Fin 64) : iblk m c 3 t (ix3 0 s d) = (V' s (gg t) d : EReal) := by
  rw [block3, V_v, kvHeads_apply hv]

include hc in
theorem x4_val (r : Fin 1024) (d : Fin 64) : iblk m c 4 t (ix2 r (lane j d)) = (C (rr t r) (ln (gg t) (bb t j) d) : EReal) := by
  rw [block4, hc]

include hq hk hv in
theorem x5_val (r : Fin 1024) (d : Fin 64) : iblk m c 5 t (ix2 r (lane j d)) =
    ((∑ s, V' s (gg t) d * W (X Q K (gg t) (bb t j) (rr t r)) s : ℝ) : EReal) := by
  rw [block5, V_oa, output_apply hq hk hv]

include hq hk in
/-- The point's weights are the softmax's. -/
theorem pr_val (r : Fin 1024) (s : Fin 4096) : pr (iblk m c 0 t) (iblk m c 2 t) (iblk m c 6 t) j r s =
    (W (X Q K (gg t) (bb t j) (rr t r)) s : EReal) := by
  obtain ⟨L, hL, hW⟩ := logSums_apply hq hk (gg t) (bb t j) (rr t r)
  have h6 : iblk m c 6 t (ix3 j (0 : Fin 1) r) = (L : EReal) := by rw [block6, V_lse, hL]
  have hx : X Q K (gg t) (bb t j) (rr t r) s = ∑ d, Q (rr t r) (hd (gg t) (bb t j)) d * (1 / 8) * K s (gg t) d := by
    rw [X, Finset.sum_mul]
    exact Finset.sum_congr rfl fun d _ => by ring
  unfold pr
  rw [h6]
  simp only [x0_val hq, x2_val hk, ← EReal.coe_mul, ← coe_sum]
  rw [← hx, ← EReal.coe_sub, Ideal.exp_coe, hW]

include hq hk hv hc in
/-- The point's derivatives by the scores are the model's. -/
theorem ds_val (r : Fin 1024) (s : Fin 4096) :
    ds (iblk m c 0 t) (iblk m c 2 t) (iblk m c 3 t) (iblk m c 4 t) (iblk m c 5 t) (iblk m c 6 t) j r s =
    (DS Q K V' C (gg t) (bb t j) (rr t r) s : EReal) := by
  unfold ds
  rw [pr_val hq hk]
  simp only [x4_val hc, x3_val hv, x5_val hq hk hv, ← EReal.coe_mul, ← coe_sum]
  rw [← EReal.coe_sub, ← EReal.coe_mul, dot_output]
  rfl

include hq hk hv hc in
theorem dqStep_val (r : Fin 1024) (d : Fin 64) :
    dqStep (iblk m c 0 t) (iblk m c 2 t) (iblk m c 3 t) (iblk m c 4 t) (iblk m c 5 t) (iblk m c 6 t) j r d =
    (gradQ Q K V' C (rr t r) (ln (gg t) (bb t j) d) : EReal) := by
  have h1 : (⟨(ln (gg t) (bb t j) d).val / 256, by omega⟩ : Fin 2) = gg t := Fin.ext (by simp only [ln]; omega)
  have h2 : (⟨(ln (gg t) (bb t j) d).val / 64 % 4, by omega⟩ : Fin 4) = bb t j := Fin.ext (by simp only [ln]; omega)
  have h3 : (⟨(ln (gg t) (bb t j) d).val % 64, by omega⟩ : Fin 64) = d := Fin.ext (by simp only [ln]; omega)
  unfold dqStep gradQ
  rw [h1, h2, h3, ofBits_eighth]
  simp only [ds_val hq hk hv hc, x2_val hk, ← EReal.coe_mul, ← coe_sum]
  rw [Finset.sum_mul]
  exact congrArg _ (Finset.sum_congr rfl fun s _ => by ring)

/-- Head j's part of the point's step on dvᵀ. -/
def dvTerm (Q : Fin 4096 → Fin 8 → Fin 64 → ℝ) (K : Fin 4096 → Fin 2 → Fin 64 → ℝ) (C : Fin 4096 → Fin 512 → ℝ)
    (g : Fin 2) (d : Fin 64) (s : Fin 4096) (r : Fin 4096) (b : Fin 4) : ℝ :=
  W (X Q K g b r) s * C r (ln g b d)

/-- Head j's part of the point's step on dkᵀ. -/
def dkTerm (Q : Fin 4096 → Fin 8 → Fin 64 → ℝ) (K V' : Fin 4096 → Fin 2 → Fin 64 → ℝ) (C : Fin 4096 → Fin 512 → ℝ)
    (g : Fin 2) (d : Fin 64) (s : Fin 4096) (r : Fin 4096) (b : Fin 4) : ℝ :=
  DS Q K V' C g b r s * (1 / 8) * Q r (hd g b) d

include hq hk hc in
theorem dvStep_val (a : Vec Ideal S1x64x4096 .f32) (d : Fin 64) (s : Fin 4096) :
    dvStep (iblk m c 0 t) (iblk m c 2 t) (iblk m c 4 t) (iblk m c 6 t) a d s = a (ix3 0 d s) +
      ((∑ r, dvTerm Q K C (gg t) d s (rr t r) (bb t 0) + ∑ r, dvTerm Q K C (gg t) d s (rr t r) (bb t 1) : ℝ) : EReal) := by
  unfold dvStep dvTerm
  simp only [x4_val hc, pr_val hq hk, ← EReal.coe_mul, ← coe_sum]
  rw [add_assoc, ← EReal.coe_add]
  simp only [mul_comm (C _ _)]

include hq hk hv hc in
theorem dkStep_val (a : Vec Ideal S1x64x4096 .f32) (d : Fin 64) (s : Fin 4096) :
    dkStep (iblk m c 0 t) (iblk m c 1 t) (iblk m c 2 t) (iblk m c 3 t) (iblk m c 4 t) (iblk m c 5 t) (iblk m c 6 t) a d s = a (ix3 0 d s) +
      ((∑ r, dkTerm Q K V' C (gg t) d s (rr t r) (bb t 0) + ∑ r, dkTerm Q K V' C (gg t) d s (rr t r) (bb t 1) : ℝ) : EReal) := by
  have h : ∀ j : Fin 2, ∑ r : Fin 1024, Q (rr t r) (hd (gg t) (bb t j)) d * (1 / 8) * DS Q K V' C (gg t) (bb t j) (rr t r) s =
      ∑ r, dkTerm Q K V' C (gg t) d s (rr t r) (bb t j) := fun j => Finset.sum_congr rfl fun r _ => by rw [dkTerm]; ring
  unfold dkStep
  simp only [x1_val hq, ds_val hq hk hv hc, ← EReal.coe_mul, ← coe_sum]
  rw [add_assoc, ← EReal.coe_add, h, h]

end

end Cert.KernelIdeal.Value

end

end
-- ==== Proof.ArrayValue.lean ====
/- The three arrays the attention gradient's kernel leaves, over real arguments: they are the reference's. -/
module

public import proofs.«01_k».proof.Proof.PointValue

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Attn

variable {m : (ℓ : Loc nD τ sig) → Buf (Elt Ideal) ℓ} {c : Dev nD}

/-- A block of the first output, an element of it in its array. -/
theorem place7 (Y : FVec Ideal S4096x512 .f32) (t : Fin cfg0.N) (r : Fin 1024) (j : Fin 2) (d : Fin 64) :
    Y (((cfg0.win 7).blk t).view.emb (ix2 r (lane j d))) = Y (ix2 (rr t r) (ln (gg t) (bb t j) d)) := by
  have := points t
  unfold ln gg bb rr lane
  blk_ext [idx t]

theorem place8 (Y : FVec Ideal S2x64x4096 .f32) (t : Fin cfg0.N) (d : Fin 64) (s : Fin 4096) :
    Y (((cfg0.win 8).blk t).view.emb (ix3 0 d s)) = Y (ix3 (gg t) d s) := by
  have := points t
  unfold gg
  blk_ext [idx t]

theorem place9 (Y : FVec Ideal S2x64x4096 .f32) (t : Fin cfg0.N) (d : Fin 64) (s : Fin 4096) :
    Y (((cfg0.win 9).blk t).view.emb (ix3 0 d s)) = Y (ix3 (gg t) d s) := by
  have := points t
  unfold gg
  blk_ext [idx t]

/-- A lane of a two-head block is a lane of one of its heads. -/
theorem exists_lane (l : Fin 128) : ∃ (j : Fin 2) (d : Fin 64), l = lane j d :=
  ⟨⟨l.val / 64, by omega⟩, ⟨l.val % 64, by omega⟩, Fin.ext (by simp only [lane]; omega)⟩

theorem zeros1 (d : Fin 64) (s : Fin 4096) : k0_pay1 (F := Ideal) (ix3 0 d s) = 0 := by
  pointwise [k0_pay1]

theorem zeros2 (d : Fin 64) (s : Fin 4096) : k0_pay2 (F := Ideal) (ix3 0 d s) = 0 := by
  pointwise [k0_pay2]

section

variable {Q : Fin 4096 → Fin 8 → Fin 64 → ℝ} {K V' : Fin 4096 → Fin 2 → Fin 64 → ℝ} {C : Fin 4096 → Fin 512 → ℝ}
variable (hq : ∀ r h d, m ((c : Thread nD τ).loc main_arg0) (ix3 r h d) = (Q r h d : EReal))
variable (hk : ∀ s g d, m ((c : Thread nD τ).loc main_arg1) (ix3 s g d) = (K s g d : EReal))
variable (hv : ∀ s g d, m ((c : Thread nD τ).loc main_arg2) (ix3 s g d) = (V' s g d : EReal))
variable (hc : ∀ r l, m ((c : Thread nD τ).loc main_arg3) (ix2 r l) = (C r l : EReal))

include hq hk hv hc in
/-- A point's block of dq. -/
theorem dq_point (t : Fin cfg0.N) (r : Fin 1024) (j : Fin 2) (d : Fin 64) :
    (outsAt0 m c t.val t.isLt).1 (ix2 r (lane j d)) = (gradQ Q K V' C (rr t r) (ln (gg t) (bb t j) d) : EReal) := by
  rw [← dqStep_val hq hk hv hc]
  by_cases h0 : t.val % 8 = 0
  · match j with
    | 0 => exact dq_A0 m c t h0 r d
    | 1 => exact dq_A1 m c t h0 r d
  · match j with
    | 0 => exact dq_B0 m c t h0 r d
    | 1 => exact dq_B1 m c t h0 r d

/-- What a point adds to dvᵀ. -/
def dvAdd (Q : Fin 4096 → Fin 8 → Fin 64 → ℝ) (K : Fin 4096 → Fin 2 → Fin 64 → ℝ) (C : Fin 4096 → Fin 512 → ℝ)
    (t : Fin cfg0.N) (i : Fin 64 × Fin 4096) : EReal :=
  ((∑ r, dvTerm Q K C (gg t) i.1 i.2 (rr t r) (bb t 0) + ∑ r, dvTerm Q K C (gg t) i.1 i.2 (rr t r) (bb t 1) : ℝ) : EReal)

/-- What a point adds to dkᵀ. -/
def dkAdd (Q : Fin 4096 → Fin 8 → Fin 64 → ℝ) (K V' : Fin 4096 → Fin 2 → Fin 64 → ℝ) (C : Fin 4096 → Fin 512 → ℝ)
    (t : Fin cfg0.N) (i : Fin 64 × Fin 4096) : EReal :=
  ((∑ r, dkTerm Q K V' C (gg t) i.1 i.2 (rr t r) (bb t 0) + ∑ r, dkTerm Q K V' C (gg t) i.1 i.2 (rr t r) (bb t 1) : ℝ) : EReal)

/-- The sum over a run of eight points is the sum over all rows and heads of the run's key head. -/
theorem sum_points (f : Fin 2 → Fin 4096 → Fin 4 → ℝ) (t : Fin cfg0.N) (ht : t.val % 8 = 7) (p : Fin 8 → Fin cfg0.N)
    (hp : ∀ k, (p k).val = 8 * (t.val / 8) + k.val) :
    ∑ k, ((∑ r, f (gg (p k)) (rr (p k) r) (bb (p k) 0) + ∑ r, f (gg (p k)) (rr (p k) r) (bb (p k) 1) : ℝ) : EReal) =
      ((∑ r, ∑ b, f (gg t) r b : ℝ) : EReal) := by
  rw [← coe_sum, ← sum_run]
  refine congrArg _ (Finset.sum_congr rfl fun k _ => ?_)
  have hg : gg (p k) = gg t := Fin.ext (by simp only [gg, hp]; omega)
  have hr : ∀ r : Fin 1024, rr (p k) r = ⟨k.val % 4 * 1024 + r.val, by omega⟩ := fun r => Fin.ext (by simp only [rr, hp]; omega)
  have hb0 : bb (p k) 0 = ⟨k.val / 4 % 2 * 2 + 0, by omega⟩ := Fin.ext (by simp only [bb, hp, Fin.val_zero]; omega)
  have hb1 : bb (p k) 1 = ⟨k.val / 4 % 2 * 2 + 1, by omega⟩ := Fin.ext (by simp only [bb, hp, Fin.val_one]; omega)
  simp only [hg, hr, hb0, hb1]

include hq hk hc in
/-- dvᵀ where it is written back: the whole gradient of the run's key head. -/
theorem dv_point (t : Fin cfg0.N) (ht : t.val % 8 = 7) (d : Fin 64) (s : Fin 4096) :
    (outsAt0 m c t.val t.isLt).2.2 (ix3 0 d s) = (gradV Q K C (gg t) d s : EReal) := by
  have h := Pipeline.eq_sum_fin_of_reset_step_apply_of_flush (fun n h (i : Fin 64 × Fin 4096) => (outsAt0 m c n h).2.2 (ix3 0 i.1 i.2)) 8
    (fun _ => (0 : EReal)) (dvAdd Q K C)
    (fun t h0 i => by rw [dv_A m c t h0, dvStep_val hq hk hc, zeros2]; rfl)
    (fun t h0 i => by rw [dv_B m c t h0, dvStep_val hq hk hc]; rfl) t ht (d, s)
  refine h.trans ?_
  rw [zero_add]
  exact sum_points (fun g r b => dvTerm Q K C g d s r b) t ht _ fun k => rfl

include hq hk hv hc in
/-- dkᵀ where it is written back: the whole gradient of the run's key head. -/
theorem dk_point (t : Fin cfg0.N) (ht : t.val % 8 = 7) (d : Fin 64) (s : Fin 4096) :
    (outsAt0 m c t.val t.isLt).2.1 (ix3 0 d s) = (gradK Q K V' C (gg t) d s : EReal) := by
  have h := Pipeline.eq_sum_fin_of_reset_step_apply_of_flush (fun n h (i : Fin 64 × Fin 4096) => (outsAt0 m c n h).2.1 (ix3 0 i.1 i.2)) 8
    (fun _ => (0 : EReal)) (dkAdd Q K V' C)
    (fun t h0 i => by rw [dk_A m c t h0, dkStep_val hq hk hv hc, zeros1]; rfl)
    (fun t h0 i => by rw [dk_B m c t h0, dkStep_val hq hk hv hc]; rfl) t ht (d, s)
  refine h.trans ?_
  rw [zero_add]
  exact sum_points (fun g r b => dkTerm Q K V' C g d s r b) t ht _ fun k => rfl

open Cert.ReferenceIdeal.Value (dQuery dKey dValue dQuery_apply dKey_apply dValue_apply)

include hq hk hv hc in
theorem final_dq : (dats m 0 c).arrAt 7 cfg0.N = dQuery (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  idx_vars y
  obtain ⟨j, d, rfl⟩ := exists_lane y1
  exact (dq_point hq hk hv hc t y0 j d).trans ((place7 _ t y0 j d).trans (dQuery_apply hq hk hv hc _ _)).symm

include hq hk hv hc in
theorem final_dk : (dats m 0 c).arrAt 8 cfg0.N = dKey (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t hf y => ?_
  blk_simp
  rw [after0_8]
  idx_vars y
  obtain rfl : y0 = 0 := Subsingleton.elim _ _
  exact (dk_point hq hk hv hc t ((flush0_8 t).mp hf) y1 y2).trans ((place8 _ t y1 y2).trans (dKey_apply hq hk hv hc _ _ _)).symm

include hq hk hc in
theorem final_dv : (dats m 0 c).arrAt 9 cfg0.N = dValue (m ((c : Thread nD τ).loc main_arg0)) (m ((c : Thread nD τ).loc main_arg1))
    (m ((c : Thread nD τ).loc main_arg3)) := by
  refine (dats m 0 c).arrAt_eq_of_covers 9 _ (by decide +kernel) fun t hf y => ?_
  blk_simp
  rw [after0_9]
  idx_vars y
  obtain rfl : y0 = 0 := Subsingleton.elim _ _
  exact (dv_point hq hk hc t ((flush0_9 t).mp hf) y1 y2).trans ((place9 _ t y1 y2).trans (dValue_apply hq hk hc _ _ _)).symm

end

end Cert.KernelIdeal.Value

end

end
-- ==== Proof.Finite.lean ====
/- What the precondition says: every element of the four arguments is a real number. -/
module

public import proofs.«01_k».proof.Defs
public import Idealize.ShloMosaic.Lib.ReduceAll
public import Idealize.ShloMosaic.Lib.Affine
public import Idealize.ShloMosaic.Lib.Pipeline.ValueKit

@[expose] public section

set_option maxRecDepth 16384

noncomputable section

namespace Cert.Finite

open Idealize.ShloMosaic Cert.Pre_finite

theorem facts : Cert.Pre_finite.Facts :=
  { bcast_S_S4096x8x64 := by decide
    reducesTo_S4096x8x64_S_d0_1_2 := by decide
    h_S_ := by decide
    bcast_S_S4096x2x64 := by decide
    reducesTo_S4096x2x64_S_d0_1_2 := by decide
    bcast_S_S4096x512 := by decide
    reducesTo_S4096x512_S_d0_1 := by decide }

/-- An extended real whose absolute value is below +∞ is real. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array all of whose absolute values are below +∞ holds real numbers. -/
theorem real_of_all {s : Shape} {axes : List (Fin s.rank)} (hb : S_.BroadcastsInDim s (![] : Fin 0 → Fin s.rank)) (hr : s.ReducesTo axes S_) (hu : 0 < S_.numel)
    (x : FVec Ideal s .f32) (i₀ : S_.Idx)
    (h : Host.reduce IntOp.andi (cmpf .olt (Host.absf x) (broadcastInDim s ![] hb (constant S_ .f32 0x7F800000#32))) (constantI S_ 1 1#1) hr hu i₀ = 1#1)
    (i : s.Idx) : ∃ r : ℝ, x i = r :=
  haveI : Subsingleton S_.Idx := ⟨fun a b => funext fun k => k.elim0⟩
  real_of_abs_lt _ (Host.reduce_andi_all _ _ hr hu i₀ h i)

/-- The precondition, element by element. -/
theorem real_of_finite [Facts] (q : FVec Ideal S4096x8x64 .f32) (k v : FVec Ideal S4096x2x64 .f32) (ct : FVec Ideal S4096x512 .f32)
    (h : Cert.Pre_finite.fn (F := Ideal) q k v ct = fun _ => 1#1) :
    (∀ i, ∃ r : ℝ, q i = r) ∧ (∀ i, ∃ r : ℝ, k i = r) ∧ (∀ i, ∃ r : ℝ, v i = r) ∧ ∀ i, ∃ r : ℝ, ct i = r := by
  have e := congrFun h (fun a : Fin 0 => a.elim0)
  obtain ⟨e1, e2⟩ := IntOp.andi_eq_one.1 e
  obtain ⟨e3, e4⟩ := IntOp.andi_eq_one.1 e1
  obtain ⟨e5, e6⟩ := IntOp.andi_eq_one.1 e3
  exact ⟨real_of_all _ _ _ q _ e5, real_of_all _ _ _ k _ e6, real_of_all _ _ _ v _ e4, real_of_all _ _ _ ct _ e2⟩

end Cert.Finite

end

end
-- ==== Proof.MergeMath.lean ====
/- The gates over the extended reals: the logistic function stays a real number, and the slope of x · σ(x) may be taken as one factor or
   as two terms where the factor in front is a real number. -/
module

public import Idealize.ShloMosaic.PureOps.Ideal
public import Mathlib.Analysis.SpecialFunctions.Exp
public import Mathlib.Data.EReal.Operations
public import Mathlib.Data.EReal.Inv

@[expose] public section

noncomputable section

namespace Cert.Merge

open Idealize.ShloMosaic

/-- The logistic function is a real number everywhere. -/
theorem logistic_real (x : EReal) : ∃ s : ℝ, Ideal.logistic x = s := by
  induction x with
  | bot => exact ⟨0, by simp⟩
  | top => exact ⟨1, by simp⟩
  | coe r => exact ⟨_, Ideal.logistic_coe r⟩

/-- The slope of x · σ(x) times a real number. -/
theorem slope (D : ℝ) (x : EReal) :
    (D : EReal) * (Ideal.logistic x * (1 + x * (1 - Ideal.logistic x)))
      = D * Ideal.logistic x + x * D * (Ideal.logistic x * (1 - Ideal.logistic x)) := by
  induction x with
  | bot => simp
  | top =>
    have h : (1 : EReal) - 1 = 0 := by rw [← EReal.coe_one, ← EReal.coe_sub, sub_self, EReal.coe_zero]
    simp [h]
  | coe r =>
    rw [Ideal.logistic_coe]
    generalize (1 + Real.exp (-r))⁻¹ = s
    rw [← EReal.coe_one]
    simp only [← EReal.coe_sub, ← EReal.coe_mul, ← EReal.coe_add]
    congr 1
    ring

/-- A sum of products of real numbers is one. -/
theorem real_sum {n : ℕ} (f : Fin n → EReal) (h : ∀ k, ∃ r : ℝ, f k = r) : ∃ r : ℝ, ∑ k, f k = r := by
  choose g hg using h
  refine ⟨∑ k, g k, ?_⟩
  rw [Finset.sum_congr rfl fun k _ => hg k]
  induction (Finset.univ : Finset (Fin n)) using Finset.cons_induction with
  | empty => simp
  | cons a A h ih => rw [Finset.sum_cons, Finset.sum_cons, EReal.coe_add, ih]

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

end Cert.Merge

end

end
-- ==== Proof.MergeRef.lean ====
/- The merge's gradients: the reference's five results, and each at an entry. -/
module

public import proofs.«01_k».proof.Defs
public import proofs.«01_k».proof.Proof.Gen.Reference2Ideal.Run
public import proofs.«01_k».proof.Proof.MergeMath
public import Idealize.ShloMosaic.Lib.Pipeline.ValueKit
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem

variable (ga gr : FVec Ideal S4096x512 .f32) (gm : FVec Ideal S4096x2048 .f32) (oa on : FVec Ideal S4096x512 .f32)
  (wa wr : FVec Ideal S512x1024 .f32) (wo : FVec Ideal S1024x1024 .f32) (ct : FVec Ideal S4096x1024 .f32)
  (g o : FVec Ideal S4096x512 .f32) (w : FVec Ideal S512x1024 .f32) (y dy gate : FVec Ideal S4096x1024 .f32)
  (du : FVec Ideal S4096x512 .f32)

/-- The logistic function of a branch's gate. -/
def sg : FVec Ideal S4096x512 .f32 :=
  Host.divf (broadcastInDim S4096x512 ![] bcast_S_S4096x512 (constant S_ .f32 0x3F800000#32))
    (addf (broadcastInDim S4096x512 ![] bcast_S_S4096x512 (constant S_ .f32 0x3F800000#32)) (Host.exp (Host.negf g)))

/-- The same of the merge's gates. -/
def sm : FVec Ideal S4096x2048 .f32 :=
  Host.divf (broadcastInDim S4096x2048 ![] bcast_S_S4096x2048 (constant S_ .f32 0x3F800000#32))
    (addf (broadcastInDim S4096x2048 ![] bcast_S_S4096x2048 (constant S_ .f32 0x3F800000#32)) (Host.exp (Host.negf gm)))

/-- The merge's gate of the first branch. -/
def gate0 : FVec Ideal S4096x1024 .f32 :=
  shapeCast _ (extractStridedSlice S4096x1x1024 ![0, 0, 0] (shapeCast _ (sm gm) shapeCasts_S4096x2048_S4096x2x1024) slices_S4096x2x1024_S4096x1x1024_0_0_0) shapeCasts_S4096x1x1024_S4096x1024

/-- The merge's gate of the second. -/
def gate1 : FVec Ideal S4096x1024 .f32 :=
  shapeCast _ (extractStridedSlice S4096x1x1024 ![0, 1, 0] (shapeCast _ (sm gm) shapeCasts_S4096x2048_S4096x2x1024) slices_S4096x2x1024_S4096x1x1024_0_1_0) shapeCasts_S4096x1x1024_S4096x1024

/-- The merged rows' gradient. -/
def dm : FVec Ideal S4096x1024 .f32 := Host.dotGeneral dot_S4096x1024_S1024x1024_S4096x1024_1_1_0_0_n_n none ct wo

/-- A branch's gradient after its projection. -/
def dY : FVec Ideal S4096x1024 .f32 := mulf gate (dm wo ct)

/-- And before it. -/
def dU : FVec Ideal S4096x512 .f32 := Host.dotGeneral dot_S4096x1024_S512x1024_S4096x512_1_1_0_0_n_n none dy w

/-- A branch before its projection. -/
def branch : FVec Ideal S4096x512 .f32 := mulf (mulf g (sg g)) o

/-- A branch after its projection. -/
def proj : FVec Ideal S4096x1024 .f32 := Host.dotGeneral dot_S4096x512_S512x1024_S4096x1024_1_0_0_1_n_n none (branch g o) w

/-- The gradient of a branch's output. -/
def dO : FVec Ideal S4096x512 .f32 := mulf (mulf g (sg g)) du

/-- The gradient of a branch's gate. -/
def dG : FVec Ideal S4096x512 .f32 :=
  addf (mulf (mulf du o) (sg g)) (mulf (mulf g (mulf du o))
    (mulf (sg g) (subf (broadcastInDim S4096x512 ![] bcast_S_S4096x512 (constant S_ .f32 0x3F800000#32)) (sg g))))

/-- The gradient of the merge's gates. -/
def dGm (y0 y1 d : FVec Ideal S4096x1024 .f32) : FVec Ideal S4096x2048 .f32 :=
  mulf (shapeCast _ (addf (pad S4096x2x1024 ![0, 1, 0] ![0, 0, 0] ![0, 0, 0] (broadcastInDim S4096x1x1024 ![0, 2] bcast_S4096x1024_S4096x1x1024_0_2
      (mulf d y1)) (constant S_ .f32 0x00000000#32) pads_S4096x1x1024_S4096x2x1024_000_100_000 h_S_)
    (pad S4096x2x1024 ![0, 0, 0] ![0, 1, 0] ![0, 0, 0] (broadcastInDim S4096x1x1024 ![0, 2] bcast_S4096x1024_S4096x1x1024_0_2
      (mulf d y0)) (constant S_ .f32 0x00000000#32) pads_S4096x1x1024_S4096x2x1024_000_010_000 h_S_)) shapeCasts_S4096x2x1024_S4096x2048)
    (mulf (sm gm) (subf (broadcastInDim S4096x2048 ![] bcast_S_S4096x2048 (constant S_ .f32 0x3F800000#32)) (sm gm)))

/-- The three gates' gradients side by side. -/
def dZ (a b : FVec Ideal S4096x512 .f32) (e : FVec Ideal S4096x2048 .f32) : FVec Ideal S4096x3072 .bf16 :=
  truncf .bf16 (concatenate S4096x3072 1 [⟨S4096x512, a⟩, ⟨S4096x512, b⟩, ⟨S4096x2048, e⟩] concatenates_S4096x512_S4096x512_S4096x2048_S4096x3072_d1) bitsLt_bf16_f32

/-- The gradient of the output projection. -/
def dWo (y0 y1 : FVec Ideal S4096x1024 .f32) : FVec Ideal S1024x1024 .bf16 :=
  truncf .bf16 (transpose S1024x1024 [1, 0] (Host.dotGeneral dot_S4096x1024_S4096x1024_S1024x1024_0_0_1_1_n_n none ct
    (addf (mulf (gate0 gm) y0) (mulf (gate1 gm) y1))) transposes_S1024x1024_S1024x1024_1_0) bitsLt_bf16_f32

/-- The gradient of a branch's projection, transposed. -/
def dW (u : FVec Ideal S4096x512 .f32) : FVec Ideal S1024x512 .f32 :=
  transpose S1024x512 [1, 0] (transpose S512x1024 [1, 0] (Host.dotGeneral dot_S4096x1024_S4096x512_S1024x512_0_0_1_1_n_n none dy u)
    transposes_S1024x512_S512x1024_1_0) transposes_S512x1024_S1024x512_1_0

/-- The two side by side. -/
def dWb (a b : FVec Ideal S1024x512 .f32) : FVec Ideal S1024x1024 .bf16 :=
  truncf .bf16 (concatenate S1024x1024 1 [⟨S1024x512, a⟩, ⟨S1024x512, b⟩] concatenates_S1024x512_S1024x512_S1024x1024_d1) bitsLt_bf16_f32

/-! ### The five results of the nine arguments -/

def resA : FVec Ideal S4096x512 .f32 := dO ga (dU wa (dY wo ct (gate0 gm)))
def resR : FVec Ideal S4096x512 .f32 := dO gr (dU wr (dY wo ct (gate1 gm)))
def resZ : FVec Ideal S4096x3072 .bf16 :=
  dZ (dG ga oa (dU wa (dY wo ct (gate0 gm)))) (dG gr on (dU wr (dY wo ct (gate1 gm)))) (dGm gm (proj ga oa wa) (proj gr on wr) (dm wo ct))
def resO : FVec Ideal S1024x1024 .bf16 := dWo gm ct (proj ga oa wa) (proj gr on wr)
def resB : FVec Ideal S1024x1024 .bf16 := dWb (dW (dY wo ct (gate0 gm)) (branch ga oa)) (dW (dY wo ct (gate1 gm)) (branch gr on))

/-- The reference's run, its results by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = resA (m ((c.tc : Thread nD τ).loc main_arg0)) (m ((c.tc : Thread nD τ).loc main_arg2))
        (m ((c.tc : Thread nD τ).loc main_arg5)) (m ((c.tc : Thread nD τ).loc main_arg7)) (m ((c.tc : Thread nD τ).loc main_arg8))
      ∧ r.2.mem ((c.tc : Thread nD τ).loc main_v41) = resR (m ((c.tc : Thread nD τ).loc main_arg1)) (m ((c.tc : Thread nD τ).loc main_arg2))
        (m ((c.tc : Thread nD τ).loc main_arg6)) (m ((c.tc : Thread nD τ).loc main_arg7)) (m ((c.tc : Thread nD τ).loc main_arg8))
      ∧ r.2.mem ((c.tc : Thread nD τ).loc main_v51) = resZ (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v52) = resO (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg8))
      ∧ r.2.mem ((c.tc : Thread nD τ).loc main_v56) = resB (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run m ρ

/-! ### At an entry -/

theorem one : Ideal.ofBits .f32 0x3F800000#32 = 1 := by
  simp [Ideal.ofBits, Ideal.ieee]
  rw [← EReal.coe_one, ← EReal.coe_mul]; congr 1; norm_num

theorem zero : Ideal.ofBits .f32 0x00000000#32 = 0 := by
  simp [Ideal.ofBits, Ideal.ieee]

theorem sg_apply (r : Fin 4096) (d : Fin 512) : sg g (ix2 r d) = Ideal.logistic (g (ix2 r d)) := by
  rw [Ideal.logistic, ← one]
  pointwise [sg]

theorem sm_apply (r : Fin 4096) (d : Fin 2048) : sm gm (ix2 r d) = Ideal.logistic (gm (ix2 r d)) := by
  rw [Ideal.logistic, ← one]
  pointwise [sm]

theorem gate0_apply (r : Fin 4096) (d : Fin 1024) : gate0 gm (ix2 r d) = Ideal.logistic (gm (ix2 r ⟨d.val, by omega⟩)) := by
  rw [← sm_apply]
  unfold gate0
  generalize sm gm = s
  pointwise []

theorem gate1_apply (r : Fin 4096) (d : Fin 1024) : gate1 gm (ix2 r d) = Ideal.logistic (gm (ix2 r ⟨1024 + d.val, by omega⟩)) := by
  rw [← sm_apply]
  unfold gate1
  generalize sm gm = s
  pointwise []

theorem dm_apply (r : Fin 4096) (i : Fin 1024) : dm wo ct (ix2 r i) = ∑ j : Fin 1024, ct (ix2 r j) * wo (ix2 i j) := by
  pointwise [dm]

theorem dY_apply (r : Fin 4096) (i : Fin 1024) : dY wo ct gate (ix2 r i) = gate (ix2 r i) * dm wo ct (ix2 r i) := by
  unfold dY
  generalize dm wo ct = d
  pointwise []

theorem dU_apply (r : Fin 4096) (k : Fin 512) : dU w dy (ix2 r k) = ∑ j : Fin 1024, dy (ix2 r j) * w (ix2 k j) := by
  pointwise [dU]

theorem branch_apply (r : Fin 4096) (k : Fin 512) : branch g o (ix2 r k) = g (ix2 r k) * Ideal.logistic (g (ix2 r k)) * o (ix2 r k) := by
  rw [← sg_apply]
  unfold branch
  generalize sg g = s
  pointwise []

theorem dO_apply (r : Fin 4096) (k : Fin 512) : dO g du (ix2 r k) = g (ix2 r k) * Ideal.logistic (g (ix2 r k)) * du (ix2 r k) := by
  rw [← sg_apply]
  unfold dO
  generalize sg g = s
  pointwise []

theorem dG_apply (r : Fin 4096) (k : Fin 512) : dG g o du (ix2 r k) =
    du (ix2 r k) * o (ix2 r k) * Ideal.logistic (g (ix2 r k)) + g (ix2 r k) * (du (ix2 r k) * o (ix2 r k)) *
      (Ideal.logistic (g (ix2 r k)) * (1 - Ideal.logistic (g (ix2 r k)))) := by
  rw [← sg_apply, ← one]
  unfold dG
  generalize sg g = s
  pointwise []

theorem dGm_low (y0 y1 d : FVec Ideal S4096x1024 .f32) (r : Fin 4096) (k : Fin 1024) : dGm gm y0 y1 d (ix2 r ⟨k.val, by omega⟩) =
    d (ix2 r k) * y0 (ix2 r k) *
      (Ideal.logistic (gm (ix2 r ⟨k.val, by omega⟩)) * (1 - Ideal.logistic (gm (ix2 r ⟨k.val, by omega⟩)))) := by
  rw [← sm_apply, ← one]
  unfold dGm
  generalize sm gm = s
  pointwise []
  have e : k.val % 1024 = k.val := Nat.mod_eq_of_lt k.isLt
  rw [dif_neg (by omega), dif_pos (by omega), zero_add]
  simp only [e]

theorem dGm_high (y0 y1 d : FVec Ideal S4096x1024 .f32) (r : Fin 4096) (k : Fin 1024) : dGm gm y0 y1 d (ix2 r ⟨1024 + k.val, by omega⟩) =
    d (ix2 r k) * y1 (ix2 r k) *
      (Ideal.logistic (gm (ix2 r ⟨1024 + k.val, by omega⟩)) * (1 - Ideal.logistic (gm (ix2 r ⟨1024 + k.val, by omega⟩)))) := by
  rw [← sm_apply, ← one]
  unfold dGm
  generalize sm gm = s
  pointwise []
  rw [dif_pos (by omega), dif_neg (by omega), add_zero]

theorem dZ_0 (a b : FVec Ideal S4096x512 .f32) (e : FVec Ideal S4096x2048 .f32) (r : Fin 4096) (k : Fin 512) :
    dZ a b e (ix2 r ⟨k.val, by omega⟩) = a (ix2 r k) := by
  pointwise [dZ]

theorem dZ_1 (a b : FVec Ideal S4096x512 .f32) (e : FVec Ideal S4096x2048 .f32) (r : Fin 4096) (k : Fin 512) :
    dZ a b e (ix2 r ⟨512 + k.val, by omega⟩) = b (ix2 r k) := by
  pointwise [dZ]

theorem dZ_2 (a b : FVec Ideal S4096x512 .f32) (e : FVec Ideal S4096x2048 .f32) (r : Fin 4096) (k : Fin 2048) :
    dZ a b e (ix2 r ⟨1024 + k.val, by omega⟩) = e (ix2 r k) := by
  pointwise [dZ]
  rw [dif_neg (by omega), dif_neg (by omega)]
  exact congrArg (fun j => e (ix2 r j)) (Fin.ext (by show 1024 + k.val - 512 - 512 = k.val; omega))

theorem dWo_apply (y0 y1 : FVec Ideal S4096x1024 .f32) (i j : Fin 1024) : dWo gm ct y0 y1 (ix2 i j) =
    ∑ r : Fin 4096, ct (ix2 r j) * (gate0 gm (ix2 r i) * y0 (ix2 r i) + gate1 gm (ix2 r i) * y1 (ix2 r i)) := by
  unfold dWo
  generalize gate0 gm = s
  generalize gate1 gm = t
  pointwise []

theorem dW_apply (u : FVec Ideal S4096x512 .f32) (i : Fin 1024) (k : Fin 512) : dW dy u (ix2 i k) = ∑ r : Fin 4096, dy (ix2 r i) * u (ix2 r k) := by
  pointwise [dW]

theorem dWb_0 (a b : FVec Ideal S1024x512 .f32) (i : Fin 1024) (k : Fin 512) : dWb a b (ix2 i ⟨k.val, by omega⟩) = a (ix2 i k) := by
  pointwise [dWb]

theorem dWb_1 (a b : FVec Ideal S1024x512 .f32) (i : Fin 1024) (k : Fin 512) : dWb a b (ix2 i ⟨512 + k.val, by omega⟩) = b (ix2 i k) := by
  pointwise [dWb]

end Cert.Reference2Ideal.Value

end

end
-- ==== Proof.MergeBlocks.lean ====
/- The merge's gradient kernel at an entry: its values, block by block, and what its windows hold of the arguments. -/
module

public import proofs.«01_k».proof.Defs
public import proofs.«01_k».proof.Proof.Gen.Kernel2Ideal.Value
public import proofs.«01_k».proof.Proof.MergeRef
public import Idealize.ShloMosaic.Lib.Pipeline.ValueKit
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Value (one zero)

/-! ### The kernel's values at an entry -/

section Payloads

variable (x : Vec Ideal S256x1024 .f32) (y : Vec Ideal S256x1024 .bf16) (d : FVec Ideal S256x1024 .f32) (e : FVec Ideal S256x1024 .bf16)
  (g o : Vec Ideal S256x512 .f32) (s : FVec Ideal S256x512 .f32) (w : Vec Ideal S1024x512 .bf16) (v : Vec Ideal S1024x1024 .bf16)

theorem pay11_apply (r : Fin 256) (k : Fin 1024) : k0_pay11 x (ix2 r k) = Ideal.logistic (x (ix2 r k)) := by
  rw [Ideal.logistic, ← one, ← zero_sub, ← zero]
  pointwise [k0_pay11]

theorem pay12_apply (r : Fin 256) (k : Fin 1024) : k0_pay12 x (ix2 r k) = Ideal.logistic (x (ix2 r k)) := by
  rw [Ideal.logistic, ← one, ← zero_sub, ← zero]
  pointwise [k0_pay12]

theorem pay21_apply (r : Fin 256) (k : Fin 512) : k0_pay21 g (ix2 r k) = Ideal.logistic (g (ix2 r k)) := by
  rw [Ideal.logistic, ← one, ← zero_sub, ← zero]
  pointwise [k0_pay21, k0_pay20]

theorem pay30_apply (r : Fin 256) (k : Fin 512) : k0_pay30 g (ix2 r k) = Ideal.logistic (g (ix2 r k)) := by
  rw [Ideal.logistic, ← one, ← zero_sub, ← zero]
  pointwise [k0_pay30, k0_pay29]

theorem pay22_apply (r : Fin 256) (k : Fin 512) : k0_pay22 g (ix2 r k) = g (ix2 r k) * Ideal.logistic (g (ix2 r k)) := by
  rw [← pay21_apply]
  unfold k0_pay22
  generalize k0_pay21 g = s
  pointwise [k0_pay20]

theorem pay31_apply (r : Fin 256) (k : Fin 512) : k0_pay31 g (ix2 r k) = g (ix2 r k) * Ideal.logistic (g (ix2 r k)) := by
  rw [← pay30_apply]
  unfold k0_pay31
  generalize k0_pay30 g = s
  pointwise [k0_pay29]

theorem pay14_apply (r : Fin 256) (i : Fin 1024) : k0_pay14 x v (ix2 r i) = ∑ j : Fin 1024, x (ix2 r j) * v (ix2 i j) := by
  pointwise [k0_pay14, k0_pay8]

theorem pay16_apply (r : Fin 256) (i : Fin 1024) : k0_pay16 d (ix2 r i) = d (ix2 r i) := by
  pointwise [k0_pay16]

theorem pay15_apply (x' : Vec Ideal S256x1024 .f32) (r : Fin 256) (i : Fin 1024) :
    k0_pay15 x' x v (ix2 r i) = k0_pay14 x' v (ix2 r i) * Ideal.logistic (x (ix2 r i)) := by
  rw [← pay11_apply]
  unfold k0_pay15
  generalize k0_pay11 x = s
  generalize k0_pay14 x' v = z
  pointwise []

theorem pay17_apply (r : Fin 256) (i : Fin 1024) : k0_pay17 (k0_pay12 x) d (ix2 r i) = d (ix2 r i) * Ideal.logistic (x (ix2 r i)) := by
  rw [← pay12_apply]
  generalize k0_pay12 x = s
  pointwise [k0_pay17]

theorem pay18_apply (r : Fin 256) (i : Fin 1024) : k0_pay18 (k0_pay9 y) (k0_pay11 x) d (ix2 r i) =
    d (ix2 r i) * y (ix2 r i) * Ideal.logistic (x (ix2 r i)) * (1 - Ideal.logistic (x (ix2 r i))) := by
  rw [← pay11_apply, ← one]
  generalize k0_pay11 x = s
  pointwise [k0_pay18, k0_pay9]

theorem pay19_apply (r : Fin 256) (i : Fin 1024) : k0_pay19 (k0_pay10 y) (k0_pay12 x) d (ix2 r i) =
    d (ix2 r i) * y (ix2 r i) * Ideal.logistic (x (ix2 r i)) * (1 - Ideal.logistic (x (ix2 r i))) := by
  rw [← pay12_apply, ← one]
  generalize k0_pay12 x = s
  pointwise [k0_pay19, k0_pay10]

theorem pay23_apply (r : Fin 256) (k : Fin 512) : k0_pay23 d w (ix2 r k) = ∑ j : Fin 1024, d (ix2 r j) * w (ix2 j k) := by
  pointwise [k0_pay23, k0_pay16]

theorem pay32_apply (r : Fin 256) (k : Fin 512) : k0_pay32 e w (ix2 r k) = ∑ j : Fin 1024, e (ix2 r j) * w (ix2 j k) := by
  pointwise [k0_pay32]

theorem pay24_apply (r : Fin 256) (k : Fin 512) : k0_pay24 d w g (ix2 r k) =
    (∑ j : Fin 1024, d (ix2 r j) * w (ix2 j k)) * (g (ix2 r k) * Ideal.logistic (g (ix2 r k))) := by
  rw [← pay22_apply, ← pay23_apply]
  unfold k0_pay24
  generalize k0_pay22 g = s
  generalize k0_pay23 d w = z
  pointwise []

theorem pay33_apply (r : Fin 256) (k : Fin 512) : k0_pay33 e w g (ix2 r k) =
    (∑ j : Fin 1024, e (ix2 r j) * w (ix2 j k)) * (g (ix2 r k) * Ideal.logistic (g (ix2 r k))) := by
  rw [← pay31_apply, ← pay32_apply]
  unfold k0_pay33
  generalize k0_pay31 g = s
  generalize k0_pay32 e w = z
  pointwise []

theorem pay27_apply (r : Fin 256) (k : Fin 512) :
    k0_pay27 (k0_pay21 g) (k0_pay25 d w o) (k0_pay26 g) (Scalar.ofBits .f32 0x3F800000#32) (ix2 r k) =
    (∑ j : Fin 1024, d (ix2 r j) * w (ix2 j k)) * o (ix2 r k) *
      (Ideal.logistic (g (ix2 r k)) * (1 + g (ix2 r k) * (1 - Ideal.logistic (g (ix2 r k))))) := by
  rw [← pay21_apply, ← pay23_apply, ← one]
  unfold k0_pay25 k0_pay26
  generalize k0_pay21 g = s
  generalize k0_pay23 d w = z
  pointwise [k0_pay27, k0_pay20]

theorem pay1_apply (r : Fin 256) (k : Fin 512) :
    k0_pay1 (k0_pay30 g) (k0_pay34 e w o) (k0_pay35 g) (ix2 r k) =
    (∑ j : Fin 1024, e (ix2 r j) * w (ix2 j k)) * o (ix2 r k) *
      (Ideal.logistic (g (ix2 r k)) * (1 + g (ix2 r k) * (1 - Ideal.logistic (g (ix2 r k))))) := by
  rw [← pay30_apply, ← pay32_apply, ← one]
  unfold k0_pay34 k0_pay35
  generalize k0_pay30 g = s
  generalize k0_pay32 e w = z
  pointwise [k0_pay1, k0_pay29]

theorem pay28_apply (a : Vec Ideal S1024x512 .f32) (i : Fin 1024) (k : Fin 512) : k0_pay28 e o s a (ix2 i k) =
    a (ix2 i k) + ∑ r : Fin 256, e (ix2 r i) * (s (ix2 r k) * o (ix2 r k)) := by
  pointwise [k0_pay28]

theorem pay2_apply (a : Vec Ideal S1024x512 .f32) (i : Fin 1024) (k : Fin 512) : k0_pay2 e o s a (ix2 i k) =
    a (ix2 i k) + ∑ r : Fin 256, e (ix2 r i) * (s (ix2 r k) * o (ix2 r k)) := by
  pointwise [k0_pay2]

theorem pay13_apply (y' : Vec Ideal S256x1024 .bf16) (x' : Vec Ideal S256x1024 .f32) (r : Fin 256) (i : Fin 1024) :
    k0_pay13 y y' x x' (ix2 r i) = Ideal.logistic (x (ix2 r i)) * y (ix2 r i) + Ideal.logistic (x' (ix2 r i)) * y' (ix2 r i) := by
  rw [← pay11_apply, ← pay12_apply]
  unfold k0_pay13
  generalize k0_pay11 x = s
  generalize k0_pay12 x' = s'
  pointwise [k0_pay9, k0_pay10]

theorem pay3_apply (a : Vec Ideal S1024x1024 .f32) (i j : Fin 1024) : k0_pay3 (k0_pay8 x) e a (ix2 i j) =
    a (ix2 i j) + ∑ r : Fin 256, e (ix2 r i) * x (ix2 r j) := by
  pointwise [k0_pay3, k0_pay8]

theorem pay4_apply (a : Vec Ideal S1024x1024 .f32) (i j : Fin 1024) : k0_pay4 a (ix2 i j) = a (ix2 i j) := by
  pointwise [k0_pay4]
theorem pay5_apply (a : Vec Ideal S1024x1024 .f32) (i j : Fin 1024) : k0_pay5 a (ix2 i j) = a (ix2 i j) := by
  pointwise [k0_pay5]
theorem pay6_apply (i j : Fin 1024) : (k0_pay6 : FVec Ideal S1024x1024 .f32) (ix2 i j) = 0 := by
  pointwise [k0_pay6]
theorem pay7_apply (i j : Fin 1024) : (k0_pay7 : FVec Ideal S1024x1024 .f32) (ix2 i j) = 0 := by
  pointwise [k0_pay7]

theorem ld_low (i : Fin 1024) (k : Fin 512) : View.ld v (Rect.unit ![0, 0] ![1024, 512] inb_S1024x1024_S1024x512_0_0) (ix2 i k) = v (ix2 i ⟨k.val, by omega⟩) := by
  pointwise []
theorem ld_high (i : Fin 1024) (k : Fin 512) : View.ld v (Rect.unit ![0, 512] ![1024, 512] inb_S1024x1024_S1024x512_0_512) (ix2 i k) = v (ix2 i ⟨512 + k.val, by omega⟩) := by
  pointwise []

end Payloads

/-! ### What the windows hold -/

section Host

variable (ga gr : FVec Ideal S4096x512 .f32) (gm : FVec Ideal S4096x2048 .f32) (wa wr : FVec Ideal S512x1024 .f32)
  (wo : FVec Ideal S1024x1024 .f32)

/-- The gates at their columns of the projected rows, the other columns zero. -/
def gates : FVec Ideal S4096x5376 .f32 :=
  concatenate S4096x5376 1 [⟨S4096x512, broadcastInDim S4096x512 ![] bcast_S_S4096x512 (constant S_ .f32 0x00000000#32)⟩, ⟨S4096x512, ga⟩,
    ⟨S4096x1536, broadcastInDim S4096x1536 ![] bcast_S_S4096x1536 (constant S_ .f32 0x00000000#32)⟩, ⟨S4096x512, gr⟩, ⟨S4096x2048, gm⟩,
    ⟨S4096x256, broadcastInDim S4096x256 ![] bcast_S_S4096x256 (constant S_ .f32 0x00000000#32)⟩]
    concatenates_S4096x512_S4096x512_S4096x1536_S4096x512_S4096x2048_S4096x256_S4096x5376_d1

/-- The two branches' projections, transposed, side by side. -/
def projT : FVec Ideal S1024x1024 .bf16 :=
  truncf .bf16 (concatenate S1024x1024 1 [⟨S1024x512, transpose S1024x512 [1, 0] wa transposes_S512x1024_S1024x512_1_0⟩,
    ⟨S1024x512, transpose S1024x512 [1, 0] wr transposes_S512x1024_S1024x512_1_0⟩] concatenates_S1024x512_S1024x512_S1024x1024_d1) bitsLt_bf16_f32

theorem gates_a (r : Fin 4096) (k : Fin 512) : gates ga gr gm (ix2 r ⟨512 + k.val, by omega⟩) = ga (ix2 r k) := by
  pointwise [gates]
theorem gates_r (r : Fin 4096) (k : Fin 512) : gates ga gr gm (ix2 r ⟨2560 + k.val, by omega⟩) = gr (ix2 r k) := by
  pointwise [gates]
  rw [dif_neg (by omega), dif_neg (by omega), dif_neg (by omega), dif_pos (by omega)]
  exact congrArg (fun j => gr (ix2 r j)) (Fin.ext (by show 2560 + k.val - 512 - 512 - 1536 = k.val; omega))
theorem gates_m0 (r : Fin 4096) (k : Fin 1024) : gates ga gr gm (ix2 r ⟨3072 + k.val, by omega⟩) = gm (ix2 r ⟨k.val, by omega⟩) := by
  pointwise [gates]
  rw [dif_neg (by omega), dif_neg (by omega), dif_neg (by omega), dif_neg (by omega), dif_pos (by omega)]
  exact congrArg (fun j => gm (ix2 r j)) (Fin.ext (by show 3072 + k.val - 512 - 512 - 1536 - 512 = k.val; omega))
theorem gates_m1 (r : Fin 4096) (k : Fin 1024) : gates ga gr gm (ix2 r ⟨4096 + k.val, by omega⟩) = gm (ix2 r ⟨1024 + k.val, by omega⟩) := by
  pointwise [gates]
  rw [dif_neg (by omega), dif_neg (by omega), dif_neg (by omega), dif_neg (by omega), dif_pos (by omega)]
  exact congrArg (fun j => gm (ix2 r j)) (Fin.ext (by show 4096 + k.val - 512 - 512 - 1536 - 512 = 1024 + k.val; omega))
theorem projT_a (i : Fin 1024) (k : Fin 512) : projT wa wr (ix2 i ⟨k.val, by omega⟩) = wa (ix2 k i) := by
  pointwise [projT]
theorem projT_r (i : Fin 1024) (k : Fin 512) : projT wa wr (ix2 i ⟨512 + k.val, by omega⟩) = wr (ix2 k i) := by
  pointwise [projT]

end Host

variable (m : (ℓ : Loc nD τ sig) → Buf (Elt Ideal) ℓ) (c : Dev nD)

/-! ### The arguments -/

def argGa : FVec Ideal S4096x512 .f32 := m ((c : Thread nD τ).loc main_arg0)
def argGr : FVec Ideal S4096x512 .f32 := m ((c : Thread nD τ).loc main_arg1)
def argGm : FVec Ideal S4096x2048 .f32 := m ((c : Thread nD τ).loc main_arg2)
def argOa : FVec Ideal S4096x512 .f32 := m ((c : Thread nD τ).loc main_arg3)
def argOn : FVec Ideal S4096x512 .f32 := m ((c : Thread nD τ).loc main_arg4)
def argWa : FVec Ideal S512x1024 .f32 := m ((c : Thread nD τ).loc main_arg5)
def argWr : FVec Ideal S512x1024 .f32 := m ((c : Thread nD τ).loc main_arg6)
def argWo : FVec Ideal S1024x1024 .f32 := m ((c : Thread nD τ).loc main_arg7)
def argCt : FVec Ideal S4096x1024 .f32 := m ((c : Thread nD τ).loc main_arg8)

/-- The branches after their projections. -/
def yA : FVec Ideal S4096x1024 .f32 := Cert.Reference2Ideal.Value.proj (argGa m c) (argOa m c) (argWa m c)
def yR : FVec Ideal S4096x1024 .f32 := Cert.Reference2Ideal.Value.proj (argGr m c) (argOn m c) (argWr m c)

theorem V_3 : V m c main_v3 = gates (argGa m c) (argGr m c) (argGm m c) := by entry_read; rfl
theorem V_7 : V m c main_v7 = truncf .bf16 (yA m c) bitsLt_bf16_f32 := by entry_read; rfl
theorem V_11 : V m c main_v11 = truncf .bf16 (yR m c) bitsLt_bf16_f32 := by entry_read; rfl
theorem V_15 : V m c main_v15 = projT (argWa m c) (argWr m c) := by entry_read; rfl
theorem V_16 : V m c main_v16 = truncf .bf16 (argWo m c) bitsLt_bf16_f32 := by entry_read; rfl
theorem V_arg3 : V m c main_arg3 = argOa m c := by entry_read; rfl
theorem V_arg4 : V m c main_arg4 = argOn m c := by entry_read; rfl
theorem V_arg8 : V m c main_arg8 = argCt m c := by entry_read; rfl

/-- Where each window stands at each grid point. -/
theorem idx : ∀ t : Fin cfg0.N,
    win0_0.index t = ![t.val, 0] ∧ win0_1.index t = ![t.val, 1] ∧ win0_2.index t = ![t.val, 5] ∧ win0_3.index t = ![t.val, 3] ∧
    win0_4.index t = ![t.val, 4] ∧ win0_5.index t = ![t.val, 0] ∧ win0_6.index t = ![t.val, 0] ∧ win0_7.index t = ![t.val, 0] ∧
    win0_8.index t = ![t.val, 0] ∧ win0_9.index t = ![0, 0] ∧ win0_10.index t = ![0, 0] ∧ win0_11.index t = ![t.val, 0] ∧
    win0_12.index t = ![t.val, 0] ∧ win0_13.index t = ![t.val, 0] ∧ win0_14.index t = ![0, 0] ∧ win0_15.index t = ![0, 0] :=
  (by decide +kernel : ∀ t : Fin grid0.N, _)

theorem points (t : Fin cfg0.N) : t.val < 16 := t.isLt

/-- The j-th row of point t. -/
def rr (t : Fin cfg0.N) (j : Fin 256) : Fin 4096 := ⟨t.val * 256 + j.val, by have := points t; omega⟩

theorem block0 (t : Fin cfg0.N) (j : Fin 256) (k : Fin 1024) : iblk m c 0 t (ix2 j k) = argCt m c (ix2 (rr t j) k) := by
  refine Eq.trans (b := V m c main_arg8 (ix2 (rr t j) k)) ?_ (congrFun (V_arg8 m c) _)
  unfold rr
  blk_ext [iblk, idx t]

theorem block5 (t : Fin cfg0.N) (j : Fin 256) (k : Fin 512) : iblk m c 5 t (ix2 j k) = argOa m c (ix2 (rr t j) k) := by
  refine Eq.trans (b := V m c main_arg3 (ix2 (rr t j) k)) ?_ (congrFun (V_arg3 m c) _)
  unfold rr
  blk_ext [iblk, idx t]

theorem block6 (t : Fin cfg0.N) (j : Fin 256) (k : Fin 512) : iblk m c 6 t (ix2 j k) = argOn m c (ix2 (rr t j) k) := by
  refine Eq.trans (b := V m c main_arg4 (ix2 (rr t j) k)) ?_ (congrFun (V_arg4 m c) _)
  unfold rr
  blk_ext [iblk, idx t]

theorem block7 (t : Fin cfg0.N) (j : Fin 256) (k : Fin 1024) : iblk m c 7 t (ix2 j k) = yA m c (ix2 (rr t j) k) := by
  refine Eq.trans (b := V m c main_v7 (ix2 (rr t j) k)) ?_ (congrFun (V_7 m c) _)
  unfold rr
  blk_ext [iblk, idx t]

theorem block8 (t : Fin cfg0.N) (j : Fin 256) (k : Fin 1024) : iblk m c 8 t (ix2 j k) = yR m c (ix2 (rr t j) k) := by
  refine Eq.trans (b := V m c main_v11 (ix2 (rr t j) k)) ?_ (congrFun (V_11 m c) _)
  unfold rr
  blk_ext [iblk, idx t]

theorem block9_low (t : Fin cfg0.N) (i : Fin 1024) (k : Fin 512) : iblk m c 9 t (ix2 i ⟨k.val, by omega⟩) = argWa m c (ix2 k i) := by
  refine Eq.trans (b := V m c main_v15 (ix2 i ⟨k.val, by omega⟩)) ?_ ?_
  · blk_ext [iblk, idx t]
  · rw [V_15, projT_a]

theorem block9_high (t : Fin cfg0.N) (i : Fin 1024) (k : Fin 512) : iblk m c 9 t (ix2 i ⟨512 + k.val, by omega⟩) = argWr m c (ix2 k i) := by
  refine Eq.trans (b := V m c main_v15 (ix2 i ⟨512 + k.val, by omega⟩)) ?_ ?_
  · blk_ext [iblk, idx t]
  · rw [V_15, projT_r]

theorem block10 (t : Fin cfg0.N) (i j : Fin 1024) : iblk m c 10 t (ix2 i j) = argWo m c (ix2 i j) := by
  refine Eq.trans (b := V m c main_v16 (ix2 i j)) ?_ (congrFun (V_16 m c) _)
  blk_ext [iblk, idx t]

theorem block1 (t : Fin cfg0.N) (j : Fin 256) (k : Fin 512) : X0_1 m c t (ix2 j k) = argGa m c (ix2 (rr t j) k) := by
  refine Eq.trans (b := V m c main_v3 (ix2 (rr t j) ⟨512 + k.val, by omega⟩)) ?_ ?_
  · unfold X0_1 Pipeline.Window.fill rr
    rw [dif_pos (moved0_1 t _)]
    blk_ext [iblk, idx t]
  · rw [V_3, gates_a]

theorem block2 (t : Fin cfg0.N) (j : Fin 256) (k : Fin 512) : X0_2 m c t (ix2 j k) = argGr m c (ix2 (rr t j) k) := by
  refine Eq.trans (b := V m c main_v3 (ix2 (rr t j) ⟨2560 + k.val, by omega⟩)) ?_ ?_
  · unfold X0_2 Pipeline.Window.fill rr
    rw [dif_pos (moved0_2 t _)]
    blk_ext [iblk, idx t]
  · rw [V_3, gates_r]

theorem block3 (t : Fin cfg0.N) (j : Fin 256) (k : Fin 1024) : X0_3 m c t (ix2 j k) = argGm m c (ix2 (rr t j) ⟨k.val, by omega⟩) := by
  refine Eq.trans (b := V m c main_v3 (ix2 (rr t j) ⟨3072 + k.val, by omega⟩)) ?_ ?_
  · unfold X0_3 Pipeline.Window.fill rr
    rw [dif_pos (moved0_3 t _)]
    blk_ext [iblk, idx t]
  · rw [V_3, gates_m0]

theorem block4 (t : Fin cfg0.N) (j : Fin 256) (k : Fin 1024) : X0_4 m c t (ix2 j k) = argGm m c (ix2 (rr t j) ⟨1024 + k.val, by omega⟩) := by
  refine Eq.trans (b := V m c main_v3 (ix2 (rr t j) ⟨4096 + k.val, by omega⟩)) ?_ ?_
  · unfold X0_4 Pipeline.Window.fill rr
    rw [dif_pos (moved0_4 t _)]
    blk_ext [iblk, idx t]
  · rw [V_3, gates_m1]

end Cert.Kernel2Ideal.Value

end

end
-- ==== Proof.MergePoints.lean ====
/- What each point of the merge's gradient kernel leaves: its blocks of the branches' and the gates' gradients, and its share of the two
   running sums of the weights' gradients. -/
module

public import proofs.«01_k».proof.Proof.MergeBlocks
public import proofs.«01_k».proof.Proof.MergeMath
public import Idealize.ShloMosaic.Lib.Pipeline.ReadBack

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Value (resA resR resZ resO resB dY dY_apply dU dU_apply dm dm_apply gate0 gate0_apply gate1 gate1_apply branch branch_apply
  dO_apply dG dG_apply dGm dGm_low dGm_high dZ_0 dZ_1 dZ_2 dWo_apply dW_apply dWb_0 dWb_1)

/-! ### Stores of whole columns, read back -/

section Columns

variable {R C o n : ℕ} {e : EltTy} (inb : ∀ a, ![0, o] a + ![R, n] a ≤ (⟨2, ![R, C]⟩ : Shape).size a)
  (w : (⟨2, ![R, n]⟩ : Shape).Idx → Elt Ideal e) (L : List (View.Piece (Elt Ideal) (⟨2, ![R, C]⟩ : Shape) e))

/-- A column of the last store. -/
theorem canon_in (j : Fin R) (d : Fin n) (h : o + d.val < C) :
    View.canon (⟨Rect.unit (s := ⟨2, ![R, C]⟩) ![0, o] ![R, n] inb, w⟩ :: L) (ix2 j ⟨o + d.val, h⟩) = w (ix2 j d) := by
  refine Eq.trans (congrArg _ ?_) (View.canon_cons_emb (Rect.unit (s := ⟨2, ![R, C]⟩) ![0, o] ![R, n] inb) w L (ix2 j d))
  funext a
  apply Fin.ext
  match a with
  | 0 => show j.val = 0 + 1 * j.val; omega
  | 1 => show o + d.val = o + 1 * d.val; omega

/-- A column the last store left alone. -/
theorem canon_out (j : Fin R) (k : Fin C) (h : k.val < o ∨ o + n ≤ k.val) :
    View.canon (⟨Rect.unit (s := ⟨2, ![R, C]⟩) ![0, o] ![R, n] inb, w⟩ :: L) (ix2 j k) = View.canon L (ix2 j k) := by
  refine View.canon_cons_of_not_mem _ L fun hm => ?_
  have q : o ≤ k.val ∧ k.val < o + n := (Rect.mem_set_unit (inb := inb)).1 hm 1
  omega

end Columns

/-- The four stores of the gates' gradients, column by column. -/
theorem z_out (i0 : ∀ a, ![0, 512] a + ![256, 512] a ≤ S256x3072.size a) (i1 : ∀ a, ![0, 0] a + ![256, 512] a ≤ S256x3072.size a)
    (i2 : ∀ a, ![0, 2048] a + ![256, 1024] a ≤ S256x3072.size a) (i3 : ∀ a, ![0, 1024] a + ![256, 1024] a ≤ S256x3072.size a)
    (pr pa : S256x512.Idx → Elt Ideal .bf16) (p1 p0 : S256x1024.Idx → Elt Ideal .bf16) (G : Fin 3072 → Elt Ideal .bf16) (j : Fin 256)
    (ha : ∀ k : Fin 512, pa (ix2 j k) = G ⟨k.val, by omega⟩) (hr : ∀ k : Fin 512, pr (ix2 j k) = G ⟨512 + k.val, by omega⟩)
    (h0 : ∀ k : Fin 1024, p0 (ix2 j k) = G ⟨1024 + k.val, by omega⟩) (h1 : ∀ k : Fin 1024, p1 (ix2 j k) = G ⟨2048 + k.val, by omega⟩)
    (k : Fin 3072) :
    View.canon (Val := Elt Ideal) (e := .bf16) [⟨Rect.unit (s := S256x3072) ![0, 512] ![256, 512] i0, pr⟩,
      ⟨Rect.unit (s := S256x3072) ![0, 0] ![256, 512] i1, pa⟩, ⟨Rect.unit (s := S256x3072) ![0, 2048] ![256, 1024] i2, p1⟩,
      ⟨Rect.unit (s := S256x3072) ![0, 1024] ![256, 1024] i3, p0⟩] (ix2 j k) = G k := by
  by_cases c0 : k.val < 512
  · refine (canon_out (e := .bf16) i0 pr _ j k (Or.inl c0)).trans ?_
    have e := canon_in (e := .bf16) i1 pa [⟨Rect.unit (s := S256x3072) ![0, 2048] ![256, 1024] i2, p1⟩,
      ⟨Rect.unit (s := S256x3072) ![0, 1024] ![256, 1024] i3, p0⟩] j ⟨k.val, c0⟩ (by show 0 + k.val < 3072; omega)
    rw [ha] at e
    have q : (⟨0 + k.val, by omega⟩ : Fin 3072) = k := Fin.ext (Nat.zero_add _)
    exact (congrArg (fun x => View.canon _ (ix2 j x)) q.symm).trans e
  by_cases c1 : k.val < 1024
  · have e := canon_in (e := .bf16) i0 pr [⟨Rect.unit (s := S256x3072) ![0, 0] ![256, 512] i1, pa⟩, ⟨Rect.unit (s := S256x3072) ![0, 2048] ![256, 1024] i2, p1⟩,
      ⟨Rect.unit (s := S256x3072) ![0, 1024] ![256, 1024] i3, p0⟩] j ⟨k.val - 512, by omega⟩ (by show 512 + (k.val - 512) < 3072; omega)
    rw [hr] at e
    have q : (⟨512 + (k.val - 512), by omega⟩ : Fin 3072) = k := Fin.ext (by show 512 + (k.val - 512) = k.val; omega)
    exact (congrArg (fun x => View.canon _ (ix2 j x)) q.symm).trans (e.trans (congrArg G q))
  refine (canon_out (e := .bf16) i0 pr _ j k (Or.inr (by omega))).trans ((canon_out (e := .bf16) i1 pa _ j k (Or.inr (by omega))).trans ?_)
  by_cases c2 : k.val < 2048
  · refine (canon_out (e := .bf16) i2 p1 _ j k (Or.inl c2)).trans ?_
    have e := canon_in (e := .bf16) i3 p0 [] j ⟨k.val - 1024, by omega⟩ (by show 1024 + (k.val - 1024) < 3072; omega)
    rw [h0] at e
    have q : (⟨1024 + (k.val - 1024), by omega⟩ : Fin 3072) = k := Fin.ext (by show 1024 + (k.val - 1024) = k.val; omega)
    exact (congrArg (fun x => View.canon _ (ix2 j x)) q.symm).trans (e.trans (congrArg G q))
  · have e := canon_in (e := .bf16) i2 p1 [⟨Rect.unit (s := S256x3072) ![0, 1024] ![256, 1024] i3, p0⟩] j ⟨k.val - 2048, by omega⟩
      (by show 2048 + (k.val - 2048) < 3072; omega)
    rw [h1] at e
    have q : (⟨2048 + (k.val - 2048), by omega⟩ : Fin 3072) = k := Fin.ext (by show 2048 + (k.val - 2048) = k.val; omega)
    exact (congrArg (fun x => View.canon _ (ix2 j x)) q.symm).trans (e.trans (congrArg G q))

variable (m : (ℓ : Loc nD τ sig) → Buf (Elt Ideal) ℓ) (c : Dev nD)

/-! ### The reference's arrays at the launch's arguments -/

/-- The branches' gradients after and before their projections, and the branches before them. -/
def dYa : FVec Ideal S4096x1024 .f32 := dY (argWo m c) (argCt m c) (gate0 (argGm m c))
def dYr : FVec Ideal S4096x1024 .f32 := dY (argWo m c) (argCt m c) (gate1 (argGm m c))
def dUa : FVec Ideal S4096x512 .f32 := dU (argWa m c) (dYa m c)
def dUr : FVec Ideal S4096x512 .f32 := dU (argWr m c) (dYr m c)
def bA : FVec Ideal S4096x512 .f32 := branch (argGa m c) (argOa m c)
def bR : FVec Ideal S4096x512 .f32 := branch (argGr m c) (argOn m c)

def resultA : FVec Ideal S4096x512 .f32 := resA (argGa m c) (argGm m c) (argWa m c) (argWo m c) (argCt m c)
def resultR : FVec Ideal S4096x512 .f32 := resR (argGr m c) (argGm m c) (argWr m c) (argWo m c) (argCt m c)
def resultZ : FVec Ideal S4096x3072 .bf16 :=
  resZ (argGa m c) (argGr m c) (argGm m c) (argOa m c) (argOn m c) (argWa m c) (argWr m c) (argWo m c) (argCt m c)
def resultO : FVec Ideal S1024x1024 .bf16 :=
  resO (argGa m c) (argGr m c) (argGm m c) (argOa m c) (argOn m c) (argWa m c) (argWr m c) (argCt m c)
def resultB : FVec Ideal S1024x1024 .bf16 :=
  resB (argGa m c) (argGr m c) (argGm m c) (argOa m c) (argOn m c) (argWo m c) (argCt m c)

/-! ### The kernel's blocks of them -/

variable (t : Fin cfg0.N)

theorem dm_block (j : Fin 256) (i : Fin 1024) : k0_pay14 (iblk m c 0 t) (iblk m c 10 t) (ix2 j i) = dm (argWo m c) (argCt m c) (ix2 (rr t j) i) := by
  rw [dm_apply]
  refine (pay14_apply _ _ j i).trans (Finset.sum_congr rfl fun k _ => ?_)
  rw [block0, block10]

theorem dYa_block (j : Fin 256) (i : Fin 1024) : k0_pay15 (iblk m c 0 t) (X0_3 m c t) (iblk m c 10 t) (ix2 j i) = dYa m c (ix2 (rr t j) i) := by
  rw [dYa, dY_apply, gate0_apply, mul_comm]
  refine (pay15_apply _ _ _ j i).trans ?_
  rw [dm_block, block3]

theorem dYr_block (j : Fin 256) (i : Fin 1024) :
    k0_pay17 (k0_pay12 (X0_4 m c t)) (k0_pay14 (iblk m c 0 t) (iblk m c 10 t)) (ix2 j i) = dYr m c (ix2 (rr t j) i) := by
  rw [dYr, dY_apply, gate1_apply, mul_comm]
  refine (pay17_apply _ _ j i).trans ?_
  rw [dm_block, block4]

theorem dUa_block (j : Fin 256) (k : Fin 512) :
    ∑ i : Fin 1024, k0_pay15 (iblk m c 0 t) (X0_3 m c t) (iblk m c 10 t) (ix2 j i)
      * View.ld (iblk m c 9 t) (Rect.unit ![0, 0] ![1024, 512] inb_S1024x1024_S1024x512_0_0) (ix2 i k) = dUa m c (ix2 (rr t j) k) := by
  rw [dUa, dU_apply]
  exact Finset.sum_congr rfl fun i _ => congrArg₂ (· * ·) (dYa_block m c t j i) ((ld_low _ i k).trans (block9_low m c t i k))

theorem dUr_block (j : Fin 256) (k : Fin 512) :
    ∑ i : Fin 1024, k0_pay17 (k0_pay12 (X0_4 m c t)) (k0_pay14 (iblk m c 0 t) (iblk m c 10 t)) (ix2 j i)
      * View.ld (iblk m c 9 t) (Rect.unit ![0, 512] ![1024, 512] inb_S1024x1024_S1024x512_0_512) (ix2 i k) = dUr m c (ix2 (rr t j) k) := by
  rw [dUr, dU_apply]
  exact Finset.sum_congr rfl fun i _ => congrArg₂ (· * ·) (dYr_block m c t j i) ((ld_high _ i k).trans (block9_high m c t i k))

theorem payA (j : Fin 256) (k : Fin 512) :
    k0_pay24 (k0_pay15 (iblk m c 0 t) (X0_3 m c t) (iblk m c 10 t))
      (View.ld (iblk m c 9 t) (Rect.unit ![0, 0] ![1024, 512] inb_S1024x1024_S1024x512_0_0)) (X0_1 m c t) (ix2 j k) = resultA m c (ix2 (rr t j) k) := by
  refine (pay24_apply _ _ _ j k).trans ?_
  rw [resultA, resA, dO_apply]
  refine (congrArg₂ (· * ·) (dUa_block m c t j k) (congrArg (fun x => x * Ideal.logistic x) (block1 m c t j k))).trans ?_
  exact mul_comm _ _

theorem payR (j : Fin 256) (k : Fin 512) :
    k0_pay33 (k0_pay17 (k0_pay12 (X0_4 m c t)) (k0_pay14 (iblk m c 0 t) (iblk m c 10 t)))
      (View.ld (iblk m c 9 t) (Rect.unit ![0, 512] ![1024, 512] inb_S1024x1024_S1024x512_0_512)) (X0_2 m c t) (ix2 j k) = resultR m c (ix2 (rr t j) k) := by
  refine (pay33_apply _ _ _ j k).trans ?_
  rw [resultR, resR, dO_apply]
  refine (congrArg₂ (· * ·) (dUr_block m c t j k) (congrArg (fun x => x * Ideal.logistic x) (block2 m c t j k))).trans ?_
  exact mul_comm _ _

/-- The first branch's output's gradient. -/
theorem pointA (j : Fin 256) (k : Fin 512) : (outsAt0 m c t.val t.isLt).1 (ix2 j k) = resultA m c (ix2 (rr t j) k) := by
  by_cases h0 : t.val % 16 = 0
  · rw [outsAt0_A m c t h0 (by omega), ← payA m c t]
    frame_open
    frame_out
    rfl
  by_cases h1 : t.val % 16 = 15
  · rw [outsAt0_C m c t h0 h1, ← payA m c t]
    frame_open
    frame_out
    rfl
  · rw [outsAt0_B m c t h0 h1, ← payA m c t]
    frame_open
    frame_out
    rfl

/-- The second's. -/
theorem pointR (j : Fin 256) (k : Fin 512) : (outsAt0 m c t.val t.isLt).2.1 (ix2 j k) = resultR m c (ix2 (rr t j) k) := by
  by_cases h0 : t.val % 16 = 0
  · rw [outsAt0_A m c t h0 (by omega), ← payR m c t]
    frame_open
    frame_out
    rfl
  by_cases h1 : t.val % 16 = 15
  · rw [outsAt0_C m c t h0 h1, ← payR m c t]
    frame_open
    frame_out
    rfl
  · rw [outsAt0_B m c t h0 h1, ← payR m c t]
    frame_open
    frame_out
    rfl

/-! ### The gates' gradients -/

/-- Every entry of a branch's gradient times its output is a real number: where the slope's two forms agree. -/
def RealA : Prop := ∀ r k, ∃ D : ℝ, dUa m c (ix2 r k) * argOa m c (ix2 r k) = D
def RealR : Prop := ∀ r k, ∃ D : ℝ, dUr m c (ix2 r k) * argOn m c (ix2 r k) = D

theorem payZa (hA : RealA m c) (j : Fin 256) (k : Fin 512) :
    k0_pay27 (k0_pay21 (X0_1 m c t)) (k0_pay25 (k0_pay15 (iblk m c 0 t) (X0_3 m c t) (iblk m c 10 t))
      (View.ld (iblk m c 9 t) (Rect.unit ![0, 0] ![1024, 512] inb_S1024x1024_S1024x512_0_0)) (iblk m c 5 t)) (k0_pay26 (X0_1 m c t))
      (Scalar.ofBits .f32 0x3F800000#32) (ix2 j k) = resultZ m c (ix2 (rr t j) ⟨k.val, by omega⟩) := by
  refine (pay27_apply _ _ _ _ j k).trans ?_
  rw [resultZ, resZ, dZ_0, dG_apply]
  refine (congrArg₂ (· * ·) (congrArg₂ (· * ·) (dUa_block m c t j k) (block5 m c t j k))
    (congrArg (fun x => Ideal.logistic x * (1 + x * (1 - Ideal.logistic x))) (block1 m c t j k))).trans ?_
  obtain ⟨D, hD⟩ := hA (rr t j) k
  show dUa m c (ix2 (rr t j) k) * argOa m c (ix2 (rr t j) k) * _ =
    dUa m c (ix2 (rr t j) k) * argOa m c (ix2 (rr t j) k) * _ + _ * (dUa m c (ix2 (rr t j) k) * argOa m c (ix2 (rr t j) k)) * _
  rw [hD]
  exact Cert.Merge.slope D _

theorem payZr (hR : RealR m c) (j : Fin 256) (k : Fin 512) :
    k0_pay1 (k0_pay30 (X0_2 m c t)) (k0_pay34 (k0_pay17 (k0_pay12 (X0_4 m c t)) (k0_pay14 (iblk m c 0 t) (iblk m c 10 t)))
      (View.ld (iblk m c 9 t) (Rect.unit ![0, 512] ![1024, 512] inb_S1024x1024_S1024x512_0_512)) (iblk m c 6 t)) (k0_pay35 (X0_2 m c t))
      (ix2 j k) = resultZ m c (ix2 (rr t j) ⟨512 + k.val, by omega⟩) := by
  refine (pay1_apply _ _ _ _ j k).trans ?_
  rw [resultZ, resZ, dZ_1, dG_apply]
  refine (congrArg₂ (· * ·) (congrArg₂ (· * ·) (dUr_block m c t j k) (block6 m c t j k))
    (congrArg (fun x => Ideal.logistic x * (1 + x * (1 - Ideal.logistic x))) (block2 m c t j k))).trans ?_
  obtain ⟨D, hD⟩ := hR (rr t j) k
  show dUr m c (ix2 (rr t j) k) * argOn m c (ix2 (rr t j) k) * _ =
    dUr m c (ix2 (rr t j) k) * argOn m c (ix2 (rr t j) k) * _ + _ * (dUr m c (ix2 (rr t j) k) * argOn m c (ix2 (rr t j) k)) * _
  rw [hD]
  exact Cert.Merge.slope D _

theorem payZ0 (j : Fin 256) (k : Fin 1024) :
    k0_pay18 (k0_pay9 (iblk m c 7 t)) (k0_pay11 (X0_3 m c t)) (k0_pay14 (iblk m c 0 t) (iblk m c 10 t)) (ix2 j k) =
      resultZ m c (ix2 (rr t j) ⟨1024 + k.val, by omega⟩) := by
  refine (pay18_apply _ _ _ j k).trans ?_
  rw [dm_block, block7, block3, resultZ, resZ]
  refine Eq.trans ?_ ((dZ_2 _ _ _ (rr t j) ⟨k.val, by omega⟩).trans (dGm_low _ _ _ _ (rr t j) k)).symm
  rw [yA, mul_assoc]

theorem payZ1 (j : Fin 256) (k : Fin 1024) :
    k0_pay19 (k0_pay10 (iblk m c 8 t)) (k0_pay12 (X0_4 m c t)) (k0_pay14 (iblk m c 0 t) (iblk m c 10 t)) (ix2 j k) =
      resultZ m c (ix2 (rr t j) ⟨2048 + k.val, by omega⟩) := by
  refine (pay19_apply _ _ _ j k).trans ?_
  rw [dm_block, block8, block4, resultZ, resZ]
  have e : (⟨2048 + k.val, by omega⟩ : Fin 3072) = ⟨1024 + (⟨1024 + k.val, by omega⟩ : Fin 2048).val, by show 1024 + (1024 + k.val) < 3072; omega⟩ :=
    Fin.ext (by show 2048 + k.val = 1024 + (1024 + k.val); omega)
  rw [e]
  refine Eq.trans ?_ ((dZ_2 _ _ _ (rr t j) ⟨1024 + k.val, by omega⟩).trans (dGm_high _ _ _ _ (rr t j) k)).symm
  rw [yR, mul_assoc]

/-- The block of the gates' gradients a point leaves. -/
theorem pointZ (hA : RealA m c) (hR : RealR m c) (j : Fin 256) (k : Fin 3072) :
    (outsAt0 m c t.val t.isLt).2.2.1 (ix2 j k) = resultZ m c (ix2 (rr t j) k) := by
  by_cases h0 : t.val % 16 = 0
  · rw [outsAt0_A m c t h0 (by omega)]
    frame_open
    frame_out
    exact z_out _ _ _ _ _ _ _ _ (fun k => resultZ m c (ix2 (rr t j) k)) j (payZa m c t hA j) (payZr m c t hR j) (payZ0 m c t j) (payZ1 m c t j) k
  by_cases h1 : t.val % 16 = 15
  · rw [outsAt0_C m c t h0 h1]
    frame_open
    frame_out
    exact z_out _ _ _ _ _ _ _ _ (fun k => resultZ m c (ix2 (rr t j) k)) j (payZa m c t hA j) (payZr m c t hR j) (payZ0 m c t j) (payZ1 m c t j) k
  · rw [outsAt0_B m c t h0 h1]
    frame_open
    frame_out
    exact z_out _ _ _ _ _ _ _ _ (fun k => resultZ m c (ix2 (rr t j) k)) j (payZa m c t hA j) (payZr m c t hR j) (payZ0 m c t j) (payZ1 m c t j) k

end Cert.Kernel2Ideal.Value

end

end
-- ==== Proof.MergeGrad.lean ====
/- The merge's gradients: the kernel's five arrays, blocks of 256 rows and running sums over them, are the reference's. -/
module

public import proofs.«01_k».proof.Proof.MergePoints

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Value (resA resR resZ resO resB dY dY_apply dU dU_apply dm dm_apply gate0 gate0_apply gate1 gate1_apply branch branch_apply
  dO_apply dG dG_apply dGm dGm_low dGm_high dZ_0 dZ_1 dZ_2 dWo_apply dW_apply dWb_0 dWb_1)

variable (m : (ℓ : Loc nD τ sig) → Buf (Elt Ideal) ℓ) (c : Dev nD) (t : Fin cfg0.N)

/-! ### The output projection's gradient -/

/-- What a row adds. -/
def rowO (ct : FVec Ideal S4096x1024 .f32) (gm : FVec Ideal S4096x2048 .f32) (y0 y1 : FVec Ideal S4096x1024 .f32) (r : Fin 4096) (i j : Fin 1024) : EReal :=
  ct (ix2 r j) * (gate0 gm (ix2 r i) * y0 (ix2 r i) + gate1 gm (ix2 r i) * y1 (ix2 r i))

def termO (r : Fin 4096) (i j : Fin 1024) : EReal := rowO (argCt m c) (argGm m c) (yA m c) (yR m c) r i j

theorem payO (a : Vec Ideal S1024x1024 .f32) (i j : Fin 1024) :
    k0_pay3 (k0_pay8 (iblk m c 0 t)) (k0_pay13 (iblk m c 7 t) (iblk m c 8 t) (X0_3 m c t) (X0_4 m c t)) a (ix2 i j) =
      a (ix2 i j) + ∑ r : Fin 256, termO m c (rr t r) i j := by
  refine (pay3_apply _ _ a i j).trans (congrArg (a (ix2 i j) + ·) (Finset.sum_congr rfl fun r _ => ?_))
  rw [termO, rowO, gate0_apply, gate1_apply, mul_comm]
  refine congrArg₂ (· * ·) (block0 m c t r j) ((pay13_apply _ _ _ _ r i).trans ?_)
  rw [block3, block4, block7, block8]

def stepO (i : S1024x1024.Idx) : EReal := ∑ r : Fin 256, termO m c (rr t r) (i 0) (i 1)

theorem firstO (h0 : t.val % 16 = 0) (i : S1024x1024.Idx) : (outsAt0 m c t.val t.isLt).2.2.2.2.2.1 i = 0 + stepO m c t i := by
  idx_vars i
  have e := payO m c t (k0_pay6 : FVec Ideal S1024x1024 .f32) i0 i1
  rw [pay6_apply] at e
  refine Eq.trans ?_ e
  rw [outsAt0_A m c t h0 (by omega)]
  frame_open
  frame_out

theorem nextO (h0 : ¬t.val % 16 = 0) (i : S1024x1024.Idx) :
    (outsAt0 m c t.val t.isLt).2.2.2.2.2.1 i = (outsAt0 m c (t.val - 1) (Nat.lt_of_le_of_lt (Nat.sub_le _ _) t.isLt)).2.2.2.2.2.1 i + stepO m c t i := by
  idx_vars i
  refine Eq.trans ?_ (payO m c t (outsAt0 m c (t.val - 1) (Nat.lt_of_le_of_lt (Nat.sub_le _ _) t.isLt)).2.2.2.2.2.1 i0 i1)
  by_cases h1 : t.val % 16 = 15
  · rw [outsAt0_C m c t h0 h1]
    frame_open
    frame_out
    exact congrArg (fun a : Vec Ideal S1024x1024 .f32 => k0_pay3 (k0_pay8 (iblk m c 0 t)) (k0_pay13 (iblk m c 7 t) (iblk m c 8 t) (X0_3 m c t) (X0_4 m c t)) a (ix2 i0 i1))
      (Memref.IsWhole.read_unread (Memref.isWhole_whole _) _)
  · rw [outsAt0_B m c t h0 h1]
    frame_open
    frame_out
    exact congrArg (fun a : Vec Ideal S1024x1024 .f32 => k0_pay3 (k0_pay8 (iblk m c 0 t)) (k0_pay13 (iblk m c 7 t) (iblk m c 8 t) (X0_3 m c t) (X0_4 m c t)) a (ix2 i0 i1))
      (Memref.IsWhole.read_unread (Memref.isWhole_whole _) _)

/-- The rows, 256 at a time. -/
theorem rows {M : Type*} [AddCommMonoid M] (f : Fin 4096 → M) : ∑ p : Fin cfg0.N, ∑ r : Fin 256, f (rr p r) = ∑ r, f r :=
  (Fin.sum_univ_tiles 16 256 (by norm_num) f).symm

theorem lastO (ht : t.val + 1 = cfg0.N) (i j : Fin 1024) :
    (outsAt0 m c t.val t.isLt).2.2.2.2.2.1 (ix2 i j) = ∑ r : Fin 4096, termO m c r i j := by
  rw [Pipeline.eq_sum_fin_of_reset_step_apply_last (fun n h => (outsAt0 m c n h).2.2.2.2.2.1) 16 (fun _ => (0 : EReal)) (stepO m c)
    (fun t h i => firstO m c t h i) (fun t h i => nextO m c t h i) (le_of_eq N_0) t ht (ix2 i j), zero_add]
  exact rows fun r => termO m c r i j

theorem pointO (h0 : ¬t.val % 16 = 0) (h1 : t.val % 16 = 15) (i j : Fin 1024) :
    (outsAt0 m c t.val t.isLt).2.2.2.1 (ix2 i j) = resultO m c (ix2 i j) := by
  have hp := points t
  have e : (outsAt0 m c t.val t.isLt).2.2.2.1 (ix2 i j) = k0_pay4 (outsAt0 m c t.val t.isLt).2.2.2.2.2.1 (ix2 i j) := by
    rw [outsAt0_C m c t h0 h1]
    frame_open
    frame_out
  rw [e, pay4_apply, lastO m c t (by show t.val + 1 = grid0.N; rw [N_0]; omega), resultO, resO, dWo_apply]
  rfl

/-! ### The branches' projections' gradient -/

/-- What a row adds to a half. -/
def rowB (dy : FVec Ideal S4096x1024 .f32) (u : FVec Ideal S4096x512 .f32) (r : Fin 4096) (i : Fin 1024) (k : Fin 512) : EReal :=
  dy (ix2 r i) * u (ix2 r k)

def termA (r : Fin 4096) (i : Fin 1024) (k : Fin 512) : EReal := rowB (dYa m c) (bA m c) r i k
def termR (r : Fin 4096) (i : Fin 1024) (k : Fin 512) : EReal := rowB (dYr m c) (bR m c) r i k

theorem payBa (a : Vec Ideal S1024x512 .f32) (i : Fin 1024) (k : Fin 512) :
    k0_pay28 (k0_pay16 (k0_pay15 (iblk m c 0 t) (X0_3 m c t) (iblk m c 10 t))) (iblk m c 5 t) (k0_pay22 (X0_1 m c t)) a (ix2 i k) =
      a (ix2 i k) + ∑ r : Fin 256, termA m c (rr t r) i k := by
  refine (pay28_apply _ _ _ a i k).trans (congrArg (a (ix2 i k) + ·) (Finset.sum_congr rfl fun r _ => ?_))
  rw [termA, rowB, bA, branch_apply]
  refine congrArg₂ (· * ·) ((pay16_apply _ r i).trans (dYa_block m c t r i)) (congrArg₂ (· * ·) ((pay22_apply _ r k).trans ?_) (block5 m c t r k))
  rw [block1]

theorem payBr (a : Vec Ideal S1024x512 .f32) (i : Fin 1024) (k : Fin 512) :
    k0_pay2 (k0_pay17 (k0_pay12 (X0_4 m c t)) (k0_pay14 (iblk m c 0 t) (iblk m c 10 t))) (iblk m c 6 t) (k0_pay31 (X0_2 m c t)) a (ix2 i k) =
      a (ix2 i k) + ∑ r : Fin 256, termR m c (rr t r) i k := by
  refine (pay2_apply _ _ _ a i k).trans (congrArg (a (ix2 i k) + ·) (Finset.sum_congr rfl fun r _ => ?_))
  rw [termR, rowB, bR, branch_apply]
  refine congrArg₂ (· * ·) (dYr_block m c t r i) (congrArg₂ (· * ·) ((pay31_apply _ r k).trans ?_) (block6 m c t r k))
  rw [block2]

section Halves

variable (i0 : ∀ a, ![0, 512] a + ![1024, 512] a ≤ S1024x1024.size a) (i1 : ∀ a, ![0, 0] a + ![1024, 512] a ≤ S1024x1024.size a)
  (pr pa : S1024x512.Idx → Elt Ideal .f32) (L : List (View.Piece (Elt Ideal) S1024x1024 .f32)) (i : Fin 1024) (k : Fin 512)

/-- The second half's store, read. -/
theorem half_high : View.canon (Val := Elt Ideal) (e := .f32) (⟨Rect.unit (s := S1024x1024) ![0, 512] ![1024, 512] i0, pr⟩ :: L)
    (ix2 i ⟨512 + k.val, by omega⟩) = pr (ix2 i k) :=
  canon_in (e := .f32) i0 pr L i k (by omega)

/-- The first half's, under it. -/
theorem half_low : View.canon (Val := Elt Ideal) (e := .f32) (⟨Rect.unit (s := S1024x1024) ![0, 512] ![1024, 512] i0, pr⟩ ::
    ⟨Rect.unit (s := S1024x1024) ![0, 0] ![1024, 512] i1, pa⟩ :: L) (ix2 i ⟨k.val, by omega⟩) = pa (ix2 i k) := by
  refine (canon_out (e := .f32) i0 pr _ i ⟨k.val, by omega⟩ (Or.inl k.isLt)).trans ?_
  have e := canon_in (e := .f32) i1 pa L i k (by omega)
  have q : (⟨0 + k.val, by omega⟩ : Fin 1024) = ⟨k.val, by omega⟩ := Fin.ext (Nat.zero_add _)
  exact (congrArg (fun x => View.canon _ (ix2 i x)) q.symm).trans e

/-- All of them, read back at once. -/
theorem whole_back {κ : Kind} {sp : Space} (v : View sig κ sp S1024x1024 .f32) (i2 : ∀ a, ![0, 0] a + ![1024, 1024] a ≤ S1024x1024.size a) :
    v.readCov L (Rect.unit (s := S1024x1024) ![0, 0] ![1024, 1024] i2).toLoadRect = View.canon L :=
  (View.readCov_eq_canon' v L _).trans (View.ld_unit_zero (by decide) i2 (View.canon L))

end Halves

def stepA (x : Fin 1024 × Fin 512) : EReal := ∑ r : Fin 256, termA m c (rr t r) x.1 x.2
def stepR (x : Fin 1024 × Fin 512) : EReal := ∑ r : Fin 256, termR m c (rr t r) x.1 x.2

/-- The two halves of the running sum. -/
def halfA (n : ℕ) (h : n < cfg0.N) (x : Fin 1024 × Fin 512) : EReal := (outsAt0 m c n h).2.2.2.2.2.2 (ix2 x.1 ⟨x.2.val, by omega⟩)
def halfR (n : ℕ) (h : n < cfg0.N) (x : Fin 1024 × Fin 512) : EReal := (outsAt0 m c n h).2.2.2.2.2.2 (ix2 x.1 ⟨512 + x.2.val, by omega⟩)

/-- A half of the running sum, loaded. -/
def loadLow (a : Vec Ideal S1024x1024 .f32) : Vec Ideal S1024x512 .f32 :=
  View.ld (Val := Elt Ideal) (e' := .f32) a (Rect.unit (s := S1024x1024) ![0, 0] ![1024, 512] inb_S1024x1024_S1024x512_0_0)
def loadHigh (a : Vec Ideal S1024x1024 .f32) : Vec Ideal S1024x512 .f32 :=
  View.ld (Val := Elt Ideal) (e' := .f32) a (Rect.unit (s := S1024x1024) ![0, 512] ![1024, 512] inb_S1024x1024_S1024x512_0_512)

theorem acc_low (a : Vec Ideal S1024x1024 .f32) (i : Fin 1024) (k : Fin 512) : loadLow a (ix2 i k) = a (ix2 i ⟨k.val, by omega⟩) := by
  pointwise [loadLow]
theorem acc_high (a : Vec Ideal S1024x1024 .f32) (i : Fin 1024) (k : Fin 512) : loadHigh a (ix2 i k) = a (ix2 i ⟨512 + k.val, by omega⟩) := by
  pointwise [loadHigh]

theorem firstA (h0 : t.val % 16 = 0) (x : Fin 1024 × Fin 512) : halfA m c t.val t.isLt x = 0 + stepA m c t x := by
  obtain ⟨i, k⟩ := x
  have e := payBa m c t (loadLow (k0_pay7 : FVec Ideal S1024x1024 .f32)) i k
  rw [acc_low, pay7_apply] at e
  refine Eq.trans ?_ e
  unfold halfA
  rw [outsAt0_A m c t h0 (by omega)]
  frame_open
  simp (disch := decide) only [↓ View.readCov_skip, ↓ View.readCov_cons_toLoadRect, ↓ View.readCov_fill]
  frame_out
  exact half_low _ _ _ _ _ i k

theorem firstR (h0 : t.val % 16 = 0) (x : Fin 1024 × Fin 512) : halfR m c t.val t.isLt x = 0 + stepR m c t x := by
  obtain ⟨i, k⟩ := x
  have e := payBr m c t (loadHigh (k0_pay7 : FVec Ideal S1024x1024 .f32)) i k
  rw [acc_high, pay7_apply] at e
  refine Eq.trans ?_ e
  unfold halfR
  rw [outsAt0_A m c t h0 (by omega)]
  frame_open
  simp (disch := decide) only [↓ View.readCov_skip, ↓ View.readCov_cons_toLoadRect, ↓ View.readCov_fill]
  frame_out
  exact half_high _ _ _ i k

theorem nextA (h0 : ¬t.val % 16 = 0) (x : Fin 1024 × Fin 512) :
    halfA m c t.val t.isLt x = halfA m c (t.val - 1) (Nat.lt_of_le_of_lt (Nat.sub_le _ _) t.isLt) x + stepA m c t x := by
  obtain ⟨i, k⟩ := x
  have e := payBa m c t (loadLow (outsAt0 m c (t.val - 1) (Nat.lt_of_le_of_lt (Nat.sub_le _ _) t.isLt)).2.2.2.2.2.2) i k
  rw [acc_low] at e
  refine Eq.trans ?_ e
  unfold halfA
  by_cases h1 : t.val % 16 = 15
  · rw [outsAt0_C m c t h0 h1]
    frame_open
    frame_out
    refine (half_low _ _ _ _ _ i k).trans ?_
    have q := Memref.IsWhole.read_unread (Memref.isWhole_whole cc0_scratch1) (outsAt0 m c (t.val - 1) (Nat.lt_of_le_of_lt (Nat.sub_le _ _) t.isLt)).2.2.2.2.2.2
    exact congrArg (fun a : Vec Ideal S1024x1024 .f32 => k0_pay28 (k0_pay16 (k0_pay15 (iblk m c 0 t) (X0_3 m c t) (iblk m c 10 t))) (iblk m c 5 t) (k0_pay22 (X0_1 m c t))
      (loadLow a) (ix2 i k)) q
  · rw [outsAt0_B m c t h0 h1]
    frame_open
    frame_out
    refine (half_low _ _ _ _ _ i k).trans ?_
    have q := Memref.IsWhole.read_unread (Memref.isWhole_whole cc0_scratch1) (outsAt0 m c (t.val - 1) (Nat.lt_of_le_of_lt (Nat.sub_le _ _) t.isLt)).2.2.2.2.2.2
    exact congrArg (fun a : Vec Ideal S1024x1024 .f32 => k0_pay28 (k0_pay16 (k0_pay15 (iblk m c 0 t) (X0_3 m c t) (iblk m c 10 t))) (iblk m c 5 t) (k0_pay22 (X0_1 m c t))
      (loadLow a) (ix2 i k)) q

theorem nextR (h0 : ¬t.val % 16 = 0) (x : Fin 1024 × Fin 512) :
    halfR m c t.val t.isLt x = halfR m c (t.val - 1) (Nat.lt_of_le_of_lt (Nat.sub_le _ _) t.isLt) x + stepR m c t x := by
  obtain ⟨i, k⟩ := x
  have e := payBr m c t (loadHigh (outsAt0 m c (t.val - 1) (Nat.lt_of_le_of_lt (Nat.sub_le _ _) t.isLt)).2.2.2.2.2.2) i k
  rw [acc_high] at e
  refine Eq.trans ?_ e
  unfold halfR
  by_cases h1 : t.val % 16 = 15
  · rw [outsAt0_C m c t h0 h1]
    frame_open
    simp (disch := decide) only [↓ View.readCov_skip, ↓ View.readCov_cons_toLoadRect, ↓ View.readCov_fill]
    frame_out
    refine (half_high _ _ _ i k).trans ?_
    have q := Memref.IsWhole.read_unread (Memref.isWhole_whole cc0_scratch1) (outsAt0 m c (t.val - 1) (Nat.lt_of_le_of_lt (Nat.sub_le _ _) t.isLt)).2.2.2.2.2.2
    exact congrArg (fun a : Vec Ideal S1024x1024 .f32 => k0_pay2 (k0_pay17 (k0_pay12 (X0_4 m c t)) (k0_pay14 (iblk m c 0 t) (iblk m c 10 t))) (iblk m c 6 t) (k0_pay31 (X0_2 m c t))
      (loadHigh a) (ix2 i k)) q
  · rw [outsAt0_B m c t h0 h1]
    frame_open
    simp (disch := decide) only [↓ View.readCov_skip, ↓ View.readCov_cons_toLoadRect, ↓ View.readCov_fill]
    frame_out
    refine (half_high _ _ _ i k).trans ?_
    have q := Memref.IsWhole.read_unread (Memref.isWhole_whole cc0_scratch1) (outsAt0 m c (t.val - 1) (Nat.lt_of_le_of_lt (Nat.sub_le _ _) t.isLt)).2.2.2.2.2.2
    exact congrArg (fun a : Vec Ideal S1024x1024 .f32 => k0_pay2 (k0_pay17 (k0_pay12 (X0_4 m c t)) (k0_pay14 (iblk m c 0 t) (iblk m c 10 t))) (iblk m c 6 t) (k0_pay31 (X0_2 m c t))
      (loadHigh a) (ix2 i k)) q

theorem lastA (ht : t.val + 1 = cfg0.N) (i : Fin 1024) (k : Fin 512) : halfA m c t.val t.isLt (i, k) = ∑ r : Fin 4096, termA m c r i k := by
  rw [Pipeline.eq_sum_fin_of_reset_step_apply_last (halfA m c) 16 (fun _ => (0 : EReal)) (stepA m c)
    (fun t h i => firstA m c t h i) (fun t h i => nextA m c t h i) (le_of_eq N_0) t ht (i, k), zero_add]
  exact rows fun r => termA m c r i k

theorem lastR (ht : t.val + 1 = cfg0.N) (i : Fin 1024) (k : Fin 512) : halfR m c t.val t.isLt (i, k) = ∑ r : Fin 4096, termR m c r i k := by
  rw [Pipeline.eq_sum_fin_of_reset_step_apply_last (halfR m c) 16 (fun _ => (0 : EReal)) (stepR m c)
    (fun t h i => firstR m c t h i) (fun t h i => nextR m c t h i) (le_of_eq N_0) t ht (i, k), zero_add]
  exact rows fun r => termR m c r i k

theorem pointB (h0 : ¬t.val % 16 = 0) (h1 : t.val % 16 = 15) (i j : Fin 1024) :
    (outsAt0 m c t.val t.isLt).2.2.2.2.1 (ix2 i j) = resultB m c (ix2 i j) := by
  have hp := points t
  have ht : t.val + 1 = cfg0.N := by show t.val + 1 = grid0.N; rw [N_0]; omega
  have e : (outsAt0 m c t.val t.isLt).2.2.2.2.1 (ix2 i j) = k0_pay5 (outsAt0 m c t.val t.isLt).2.2.2.2.2.2 (ix2 i j) := by
    rw [outsAt0_C m c t h0 h1]
    frame_open
    frame_out
    exact congrArg (fun a : Vec Ideal S1024x1024 .f32 => k0_pay5 a (ix2 i j)) (whole_back _ _ _)
  rw [e, pay5_apply, resultB, resB]
  by_cases hj : j.val < 512
  · refine (lastA m c t ht i ⟨j.val, hj⟩).trans (Eq.trans ?_ (dWb_0 _ _ i ⟨j.val, hj⟩).symm)
    rw [dW_apply]
    rfl
  · have q : j = ⟨512 + (⟨j.val - 512, by omega⟩ : Fin 512).val, by show 512 + (j.val - 512) < 1024; omega⟩ := Fin.ext (by show j.val = 512 + (j.val - 512); omega)
    rw [q]
    refine (lastR m c t ht i ⟨j.val - 512, by omega⟩).trans ?_
    rw [dWb_1, dW_apply]
    rfl

end Cert.Kernel2Ideal.Value

end

end
-- ==== Proof.MergeFinite.lean ====
/- What the merge's precondition says: every element of the branches' outputs, the three weights and the cotangent is a real number. -/
module

public import proofs.«01_k».proof.Proof.Finite

@[expose] public section

set_option maxRecDepth 16384

noncomputable section

namespace Cert.MergeFinite

open Idealize.ShloMosaic Cert.Pre_finite_merge

theorem facts : Cert.Pre_finite_merge.Facts :=
  { bcast_S_S4096x512 := by decide
    reducesTo_S4096x512_S_d0_1 := by decide
    h_S_ := by decide
    bcast_S_S512x1024 := by decide
    reducesTo_S512x1024_S_d0_1 := by decide
    bcast_S_S1024x1024 := by decide
    reducesTo_S1024x1024_S_d0_1 := by decide
    bcast_S_S4096x1024 := by decide
    reducesTo_S4096x1024_S_d0_1 := by decide }

/-- The precondition, element by element. -/
theorem real_of_finite [Facts] (ga gr : FVec Ideal S4096x512 .f32) (gm : FVec Ideal S4096x2048 .f32) (oa on : FVec Ideal S4096x512 .f32)
    (wa wr : FVec Ideal S512x1024 .f32) (wo : FVec Ideal S1024x1024 .f32) (ct : FVec Ideal S4096x1024 .f32)
    (h : Cert.Pre_finite_merge.fn (F := Ideal) ga gr gm oa on wa wr wo ct = fun _ => 1#1) :
    (∀ i, ∃ r : ℝ, oa i = r) ∧ (∀ i, ∃ r : ℝ, on i = r) ∧ (∀ i, ∃ r : ℝ, wa i = r) ∧ (∀ i, ∃ r : ℝ, wr i = r) ∧ (∀ i, ∃ r : ℝ, wo i = r)
      ∧ ∀ i, ∃ r : ℝ, ct i = r := by
  have e := congrFun h (fun a : Fin 0 => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨Cert.Finite.real_of_all _ _ _ oa _ e1, Cert.Finite.real_of_all _ _ _ on _ e2, Cert.Finite.real_of_all _ _ _ wa _ e3,
    Cert.Finite.real_of_all _ _ _ wr _ e4, Cert.Finite.real_of_all _ _ _ wo _ e5, Cert.Finite.real_of_all _ _ _ ct _ e6⟩

end Cert.MergeFinite

end

end
-- ==== Proof.MergeFinal.lean ====
/- The merge's gradients: the kernel's five arrays are the reference's on finite arguments, and both programs run. -/
module

public import proofs.«01_k».proof.Proof.MergeGrad
public import proofs.«01_k».proof.Proof.MergeFinite
public import Idealize.ShloMosaic.Adequacy
public import Idealize.ShloMosaic.Init

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Value (dY dY_apply dU_apply dm_apply gate0_apply gate1_apply)

variable (m : (ℓ : Loc nD τ sig) → Buf (Elt Ideal) ℓ) (c : Dev nD) (t : Fin cfg0.N)

/-! ### Where a block lies -/

theorem place11 (Y : FVec Ideal S4096x512 .f32) (j : Fin 256) (k : Fin 512) : Y (((cfg0.win 11).blk t).view.emb (ix2 j k)) = Y (ix2 (rr t j) k) := by
  have := points t
  unfold rr
  blk_ext [idx t]

theorem place12 (Y : FVec Ideal S4096x512 .f32) (j : Fin 256) (k : Fin 512) : Y (((cfg0.win 12).blk t).view.emb (ix2 j k)) = Y (ix2 (rr t j) k) := by
  have := points t
  unfold rr
  blk_ext [idx t]

theorem place13 (Y : FVec Ideal S4096x3072 .bf16) (j : Fin 256) (k : Fin 3072) : Y (((cfg0.win 13).blk t).view.emb (ix2 j k)) = Y (ix2 (rr t j) k) := by
  have := points t
  unfold rr
  blk_ext [idx t]

theorem place14 (Y : FVec Ideal S1024x1024 .bf16) (i j : Fin 1024) : Y (((cfg0.win 14).blk t).view.emb (ix2 i j)) = Y (ix2 i j) := by
  have := points t
  blk_ext [idx t]

theorem place15 (Y : FVec Ideal S1024x1024 .bf16) (i j : Fin 1024) : Y (((cfg0.win 15).blk t).view.emb (ix2 i j)) = Y (ix2 i j) := by
  have := points t
  blk_ext [idx t]

/-! ### The arrays -/

theorem finalA : (dats m 0 c).arrAt 11 cfg0.N = resultA m c := by
  refine (dats m 0 c).arrAt_eq_of_covers 11 _ (by decide +kernel) fun t hf y => ?_
  blk_simp
  rw [after0_11]
  idx_vars y
  exact (pointA m c t y0 y1).trans (place11 t _ y0 y1).symm

theorem finalR : (dats m 0 c).arrAt 12 cfg0.N = resultR m c := by
  refine (dats m 0 c).arrAt_eq_of_covers 12 _ (by decide +kernel) fun t hf y => ?_
  blk_simp
  rw [after0_12]
  idx_vars y
  exact (pointR m c t y0 y1).trans (place12 t _ y0 y1).symm

theorem finalZ (hA : RealA m c) (hR : RealR m c) : (dats m 0 c).arrAt 13 cfg0.N = resultZ m c := by
  refine (dats m 0 c).arrAt_eq_of_covers 13 _ (by decide +kernel) fun t hf y => ?_
  blk_simp
  rw [after0_13]
  idx_vars y
  exact (pointZ m c t hA hR y0 y1).trans (place13 t _ y0 y1).symm

theorem finalO : (dats m 0 c).arrAt 14 cfg0.N = resultO m c := by
  refine (dats m 0 c).arrAt_eq_of_covers 14 _ (by decide +kernel) fun t hf y => ?_
  have h1 := (flush0_14 t).1 hf
  blk_simp
  rw [after0_14]
  idx_vars y
  exact (pointO m c t (by omega) h1 y0 y1).trans (place14 t _ y0 y1).symm

theorem finalB : (dats m 0 c).arrAt 15 cfg0.N = resultB m c := by
  refine (dats m 0 c).arrAt_eq_of_covers 15 _ (by decide +kernel) fun t hf y => ?_
  have h1 := (flush0_15 t).1 hf
  blk_simp
  rw [after0_15]
  idx_vars y
  exact (pointB m c t (by omega) h1 y0 y1).trans (place15 t _ y0 y1).symm

/-! ### On finite arguments the slope's two forms agree -/

/-- A branch's gradient is real where the gate, the weights and the cotangent are. -/
theorem real_dU (w : FVec Ideal S512x1024 .f32) (wo : FVec Ideal S1024x1024 .f32) (ct gate : FVec Ideal S4096x1024 .f32)
    (hw : ∀ i, ∃ r : ℝ, w i = r) (ho : ∀ i, ∃ r : ℝ, wo i = r) (hc : ∀ i, ∃ r : ℝ, ct i = r) (hg : ∀ r d, ∃ s : ℝ, gate (ix2 r d) = s)
    (r : Fin 4096) (k : Fin 512) : ∃ D : ℝ, Cert.Reference2Ideal.Value.dU w (dY wo ct gate) (ix2 r k) = D := by
  rw [dU_apply]
  refine Cert.Merge.real_sum _ fun j => Cert.Merge.real_mul ?_ (hw _)
  rw [dY_apply, dm_apply]
  exact Cert.Merge.real_mul (hg r j) (Cert.Merge.real_sum _ fun i => Cert.Merge.real_mul (hc _) (ho _))

theorem realA (hoa : ∀ i, ∃ r : ℝ, argOa m c i = r) (hwa : ∀ i, ∃ r : ℝ, argWa m c i = r) (ho : ∀ i, ∃ r : ℝ, argWo m c i = r)
    (hc : ∀ i, ∃ r : ℝ, argCt m c i = r) : RealA m c := fun r k =>
  Cert.Merge.real_mul (real_dU _ _ _ _ hwa ho hc (fun r d => by rw [gate0_apply]; exact Cert.Merge.logistic_real _) r k) (hoa _)

theorem realR (hon : ∀ i, ∃ r : ℝ, argOn m c i = r) (hwr : ∀ i, ∃ r : ℝ, argWr m c i = r) (ho : ∀ i, ∃ r : ℝ, argWo m c i = r)
    (hc : ∀ i, ∃ r : ℝ, argCt m c i = r) : RealR m c := fun r k =>
  Cert.Merge.real_mul (real_dU _ _ _ _ hwr ho hc (fun r d => by rw [gate1_apply]; exact Cert.Merge.logistic_real _) r k) (hon _)

end Cert.Kernel2Ideal.Value

namespace Cert.MergeGrad

open Idealize.ShloMosaic Idealize.SL.Sem

/-- The merge's gradients: on finite arguments kernel and reference leave the same five arrays. -/
theorem algebraic [Cert.Pre_finite_merge.Facts] : Cert.algebraic_Kernel2Ideal_Reference2Ideal_pre_finite_merge (hKernel2Ideal := Cert.Kernel2Ideal.Gen.facts)
    (hReference2Ideal := Cert.Reference2Ideal.Gen.facts) := by
  intro m g m' g' hpre hagree
  refine ⟨_, _, _, _, _, Cert.Kernel2Ideal.Value.run m g, ?_⟩
  refine (θ_run Cert.Reference2Ideal.defs _ _).mono (fun r h c => ?_) (Cert.Reference2Ideal.Value.run_named m' g')
  obtain ⟨h0, h1, h2, h3, h4, h5, h6, h7, h8⟩ := hagree c
  obtain ⟨hoa, hon, hwa, hwr, hwo, hct⟩ := Cert.MergeFinite.real_of_finite _ _ _ _ _ _ _ _ _ (hpre c)
  have hA := Cert.Kernel2Ideal.Value.realA m c hoa hwa hwo hct
  have hR := Cert.Kernel2Ideal.Value.realR m c hon hwr hwo hct
  obtain ⟨e0, e1, e2, e3, e4, e5⟩ := h c
  rw [h0, h2, h5, h7, h8] at e0
  rw [h1, h2, h6, h7, h8] at e1
  rw [h0, h1, h2, h3, h4, h5, h6, h7, h8] at e2
  rw [h0, h1, h2, h3, h4, h5, h6, h8] at e3
  rw [h0, h1, h2, h3, h4, h7, h8] at e4
  exact ⟨e0.trans ((Cert.Kernel2Ideal.Value.finalA m c).symm.trans (Cert.Kernel2Ideal.Value.final11 m c)),
    e1.trans ((Cert.Kernel2Ideal.Value.finalR m c).symm.trans (Cert.Kernel2Ideal.Value.final12 m c)),
    e2.trans ((Cert.Kernel2Ideal.Value.finalZ m c hA hR).symm.trans (Cert.Kernel2Ideal.Value.final13 m c)),
    e3.trans ((Cert.Kernel2Ideal.Value.finalO m c).symm.trans (Cert.Kernel2Ideal.Value.final14 m c)),
    e4.trans ((Cert.Kernel2Ideal.Value.finalB m c).symm.trans (Cert.Kernel2Ideal.Value.final15 m c)), e5⟩

/-- The reference runs and keeps its arguments. -/
theorem reference_frame : Cert.quiescent_Reference2Ideal (hReference2Ideal := Cert.Reference2Ideal.Gen.facts) := by
  intro m g _
  exact (θ_run Cert.Reference2Ideal.defs _ _).mono
    (fun r h => ⟨fun c => (h c).2.2.2.2.2, sem_eq_zero_of_no_sems (by decide) r.2⟩) (Cert.Reference2Ideal.Value.run_named m g)

end Cert.MergeGrad

end

end
-- ==== Proof.NormMath.lean ====
/- The gradient of a row's root-mean-square scaling over the extended reals: the kernel's way of writing it (the scaled row's component
   taken off) is the chain rule's, whatever the entries. -/
module

public import Idealize.ShloMosaic.PureOps.Ideal
public import Mathlib.Analysis.SpecialFunctions.Log.Basic
public import Mathlib.Data.EReal.Operations
public import Mathlib.Data.EReal.Inv

@[expose] public section

noncomputable section

namespace Cert.Norm

open Idealize.ShloMosaic

/-- The mean of a row's squares and the small constant. -/
def sq (x : Fin 1024 → EReal) : EReal :=
  Ideal.div (∑ k, x k * x k) (Ideal.ofBits .f32 0x44800000#32) + Ideal.ofBits .f32 0x358637BD#32

theorem width : Ideal.ofBits .f32 0x44800000#32 = ((1024 : ℝ) : EReal) := by
  simp [Ideal.ofBits, Ideal.ieee]
  rw [← EReal.coe_mul]; congr 1; norm_num

theorem half : Ideal.ofBits .f32 0xBF000000#32 = ((-(1 / 2) : ℝ) : EReal) := by
  simp [Ideal.ofBits, Ideal.ieee]
  rw [← EReal.coe_mul]; congr 1; norm_num

theorem small : ∃ e : ℝ, 0 < e ∧ Ideal.ofBits .f32 0x358637BD#32 = (e : EReal) := by
  refine ⟨_, ?_, by simp [Ideal.ofBits, Ideal.ieee]; rfl⟩
  positivity

theorem square_nonneg (a : EReal) : 0 ≤ a * a := by
  induction a with
  | bot => simp
  | top => simp
  | coe r => rw [← EReal.coe_mul]; exact_mod_cast mul_self_nonneg r

/-- The mean square is +∞, or a positive number. -/
theorem sq_cases (x : Fin 1024 → EReal) : sq x = ⊤ ∨ ∃ v : ℝ, 0 < v ∧ sq x = (v : EReal) := by
  obtain ⟨e, he, h⟩ := small
  have hs : 0 ≤ ∑ k, x k * x k := Finset.sum_nonneg fun k _ => square_nonneg _
  unfold sq
  rw [h, width, Ideal.div_coe (by norm_num)]
  generalize ∑ k, x k * x k = s at hs
  induction s with
  | bot => simp at hs
  | top =>
    left
    rw [EReal.top_mul_coe_of_pos (by norm_num), EReal.top_add_coe]
  | coe s =>
    right
    have : 0 ≤ s := by exact_mod_cast hs
    refine ⟨s * (1 / 1024) + e, by positivity, ?_⟩
    rw [← EReal.coe_mul, ← EReal.coe_add]

theorem sum_mul_coe {ι : Type*} (A : Finset ι) (f : ι → EReal) {q : ℝ} (hq : 0 ≤ q) :
    (∑ k ∈ A, f k) * (q : EReal) = ∑ k ∈ A, f k * (q : EReal) := by
  classical
  induction A using Finset.induction_on with
  | empty => simp
  | insert a A h ih =>
    rw [Finset.sum_insert h, Finset.sum_insert h, ← ih]
    exact EReal.right_distrib_of_nonneg_of_ne_top (by exact_mod_cast hq) (EReal.coe_ne_top q) _ _

/-- One entry of the row's gradient, both ways. -/
theorem entry (x y : Fin 1024 → EReal) (a b c : EReal) :
    c + Ideal.rsqrt (sq x) * (a - b * Ideal.rsqrt (sq x) *
      Ideal.div (∑ k, y k * (x k * Ideal.rsqrt (sq x))) (Ideal.ofBits .f32 0x44800000#32))
    = c + a * Ideal.rsqrt (sq x)
      + b * Ideal.div ((∑ k, x k * y k) * (Ideal.ofBits .f32 0xBF000000#32 * Ideal.div (Ideal.rsqrt (sq x)) (sq x))) (Ideal.ofBits .f32 0x44800000#32)
      + Ideal.div ((∑ k, x k * y k) * (Ideal.ofBits .f32 0xBF000000#32 * Ideal.div (Ideal.rsqrt (sq x)) (sq x))) (Ideal.ofBits .f32 0x44800000#32) * b := by
  rw [width, half, Ideal.div_coe (by norm_num), Ideal.div_coe (by norm_num)]
  rcases sq_cases x with h | ⟨v, hv, h⟩
  · have h0 : Ideal.div 0 ⊤ = 0 := by simp [Ideal.div]
    rw [h, Ideal.rsqrt_top, h0]
    simp
  · have hq : 0 < (Real.sqrt v)⁻¹ := by positivity
    have hd : (Real.sqrt v)⁻¹ * (1 / v) = (Real.sqrt v)⁻¹ * (Real.sqrt v)⁻¹ * (Real.sqrt v)⁻¹ := by
      rw [mul_assoc, one_div]; congr 1; rw [← mul_inv, Real.mul_self_sqrt hv.le]
    have hr : Ideal.rsqrt (v : EReal) = (((Real.sqrt v)⁻¹ : ℝ) : EReal) := by
      rw [Ideal.rsqrt_coe, if_neg (not_lt.2 hv.le), if_neg hv.ne']
    rw [h, hr, Ideal.div_coe hv.ne', ← EReal.coe_mul, hd]
    generalize (Real.sqrt v)⁻¹ = q at hq
    have hsum : ∑ k, y k * (x k * (q : EReal)) = (∑ k, x k * y k) * (q : EReal) := by
      rw [sum_mul_coe _ _ hq.le]
      refine Finset.sum_congr rfl fun k _ => ?_
      ac_rfl
    rw [hsum]
    generalize ∑ k, x k * y k = T
    have e1 : b * (T * (((-(1 / 2) : ℝ) : EReal) * ((q * q * q : ℝ) : EReal)) * ((1 / 1024 : ℝ) : EReal))
        = -(b * T) * ((q * q * q * (1 / 1024) / 2 : ℝ) : EReal) := by
      have : ((-(1 / 2) : ℝ) : EReal) * ((q * q * q : ℝ) : EReal) * ((1 / 1024 : ℝ) : EReal) = -((q * q * q * (1 / 1024) / 2 : ℝ) : EReal) := by
        rw [← EReal.coe_mul, ← EReal.coe_mul, ← EReal.coe_neg]; congr 1; ring
      rw [mul_assoc T, this, ← mul_assoc, mul_neg, neg_mul]
    have e2 : (T * (((-(1 / 2) : ℝ) : EReal) * ((q * q * q : ℝ) : EReal)) * ((1 / 1024 : ℝ) : EReal)) * b
        = -(b * T) * ((q * q * q * (1 / 1024) / 2 : ℝ) : EReal) := by rw [mul_comm _ b, e1]
    rw [e1, e2, add_assoc, add_assoc]
    congr 1
    rw [← EReal.left_distrib_of_nonneg (by exact_mod_cast (by positivity : 0 ≤ q * q * q * (1 / 1024) / 2)) (by exact_mod_cast (by positivity : 0 ≤ q * q * q * (1 / 1024) / 2)),
      ← EReal.coe_add, sub_eq_add_neg, EReal.left_distrib_of_nonneg_of_ne_top (by exact_mod_cast hq.le) (EReal.coe_ne_top q), mul_comm a]
    congr 1
    rw [mul_neg, neg_mul]
    congr 1
    have e3 : (q : EReal) * (b * (q : EReal) * (T * (q : EReal) * ((1 / 1024 : ℝ) : EReal))) = b * T * ((q : EReal) * (q : EReal) * (q : EReal) * ((1 / 1024 : ℝ) : EReal)) := by
      ac_rfl
    rw [e3, ← EReal.coe_mul, ← EReal.coe_mul, ← EReal.coe_mul]
    congr 2
    ring

end Cert.Norm

end

end
-- ==== Proof.NormGrad.lean ====
/- The gradient of the layer's input through the root-mean-square scaling and the projection: the kernel's two arrays, blocks of 256
   rows over six pieces of the columns' gradient, are the reference's. -/
module

public import proofs.«01_k».proof.Defs
public import proofs.«01_k».proof.Proof.Gen.Kernel3Ideal.Value
public import proofs.«01_k».proof.Proof.Gen.Reference3Ideal.Run
public import proofs.«01_k».proof.Proof.NormMath
public import Idealize.ShloMosaic.Lib.Pipeline.ValueKit
public import Idealize.ShloMosaic.Lib.Pointwise

@[expose] public section

set_option maxRecDepth 16384

noncomputable section

namespace Cert.Reference3Ideal.Value

open Cert.Reference3Ideal Cert.Reference3Ideal.Gen Idealize.ShloMosaic Idealize.ShloMosaic.TcCoe Idealize.SL.Sem

variable (x : FVec Ideal S4096x1024 .f32) (g : FVec Ideal S1024 .f32) (w : FVec Ideal S1024x5376 .f32)
  (ct : FVec Ideal S4096x1024 .f32) (dz : FVec Ideal S4096x5376 .f32) (dh : FVec Ideal S4096x1024 .f32)

/-- The mean of a row's squares, and the small constant. -/
def meanSq : FVec Ideal S4096x1 .f32 :=
  addf (Host.divf (broadcastInDim S4096x1 ![0] bcast_S4096_S4096x1_0
      (Host.reduceAdd (mulf x x) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32))

/-- The gradient of the scaled rows: the columns' gradient times the projection's weights. -/
def dRows : FVec Ideal S4096x1024 .f32 := Host.dotGeneral dot_S4096x5376_S1024x5376_S4096x1024_1_1_0_0_n_n none dz w

/-- The same times the gain. -/
def gained : FVec Ideal S4096x1024 .f32 :=
  mulf dh (broadcastInDim S4096x1024 ![0, 1] bcast_S1x1024_S4096x1024_0_1 (broadcastInDim S1x1024 ![1] bcast_S1024_S1x1024_1 g))

/-- What the square of an entry passes back to it, over the entry. -/
def pull : FVec Ideal S4096 .f32 :=
  Host.reduceAdd (Host.divf (mulf (shapeCast S4096x1 (Host.reduceAdd (mulf x (gained g dh)) (constant S_ .f32 0x00000000#32)
        reducesTo_S4096x1024_S4096_d1 h_S_) shapeCasts_S4096_S4096x1)
      (mulf (broadcastInDim S4096x1 ![] bcast_S_S4096x1 (constant S_ .f32 0xBF000000#32)) (Host.divf (Host.rsqrt (meanSq x)) (meanSq x))))
    (broadcastInDim S4096x1 ![] bcast_S_S4096x1 (constant S_ .f32 0x44800000#32)))
    (constant S_ .f32 0x00000000#32) reducesTo_S4096x1_S4096_d1 h_S_

/-- The gradient of the rows. -/
def dx : FVec Ideal S4096x1024 .f32 :=
  addf (addf (addf ct (mulf (gained g dh) (broadcastInDim S4096x1024 ![0, 1] bcast_S4096x1_S4096x1024_0_1 (Host.rsqrt (meanSq x)))))
    (mulf x (broadcastInDim S4096x1024 ![0] bcast_S4096_S4096x1024_0 (pull x g dh))))
    (mulf (broadcastInDim S4096x1024 ![0] bcast_S4096_S4096x1024_0 (pull x g dh)) x)

/-- The gradient of the gain. -/
def dGain : FVec Ideal S1x1024 .f32 :=
  broadcastInDim S1x1024 ![1] bcast_S1024_S1x1024_1 (Host.reduceAdd (shapeCast S1x1024 (Host.reduceAdd
      (mulf (mulf x (broadcastInDim S4096x1024 ![0, 1] bcast_S4096x1_S4096x1024_0_1 (Host.rsqrt (meanSq x)))) dh)
      (constant S_ .f32 0x00000000#32) reducesTo_S4096x1024_S1024_d0 h_S_) shapeCasts_S1024_S1x1024)
    (constant S_ .f32 0x00000000#32) reducesTo_S1x1024_S1024_d0 h_S_)

/-- The reference's run, its results by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = dx (m ((c.tc : Thread nD τ).loc main_arg0)) (m ((c.tc : Thread nD τ).loc main_arg1))
        (m ((c.tc : Thread nD τ).loc main_arg3)) (dRows (m ((c.tc : Thread nD τ).loc main_arg2)) (m ((c.tc : Thread nD τ).loc main_arg4)))
      ∧ r.2.mem ((c.tc : Thread nD τ).loc main_v39) = dGain (m ((c.tc : Thread nD τ).loc main_arg0))
        (dRows (m ((c.tc : Thread nD τ).loc main_arg2)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

theorem dRows_apply (r : Fin 4096) (d : Fin 1024) : dRows w dz (ix2 r d) = ∑ j : Fin 5376, dz (ix2 r j) * w (ix2 d j) := by
  pointwise [dRows]

theorem meanSq_apply (r : Fin 4096) : meanSq x (ix2 r 0) = Cert.Norm.sq fun k => x (ix2 r k) := by
  unfold Cert.Norm.sq
  pointwise [meanSq]

theorem gained_apply (r : Fin 4096) (d : Fin 1024) : gained g dh (ix2 r d) = dh (ix2 r d) * g (ix1 d) := by
  pointwise [gained]

theorem pull_apply (r : Fin 4096) : pull x g dh (ix1 r) = Ideal.div ((∑ k : Fin 1024, x (ix2 r k) * (dh (ix2 r k) * g (ix1 k)))
    * (Ideal.ofBits .f32 0xBF000000#32 * Ideal.div (Ideal.rsqrt (Cert.Norm.sq fun k => x (ix2 r k))) (Cert.Norm.sq fun k => x (ix2 r k))))
    (Ideal.ofBits .f32 0x44800000#32) := by
  rw [← meanSq_apply]
  pointwise [pull, gained]
  rw [Fin.sum_univ_one]

theorem dx_apply (r : Fin 4096) (d : Fin 1024) : dx x g ct dh (ix2 r d) =
    ct (ix2 r d) + dh (ix2 r d) * g (ix1 d) * Ideal.rsqrt (Cert.Norm.sq fun k => x (ix2 r k)) + x (ix2 r d) * pull x g dh (ix1 r)
      + pull x g dh (ix1 r) * x (ix2 r d) := by
  rw [← meanSq_apply]
  pointwise [dx, gained]

theorem dGain_apply (d : Fin 1024) : dGain x dh (ix2 0 d) =
    ∑ r : Fin 4096, x (ix2 r d) * Ideal.rsqrt (Cert.Norm.sq fun k => x (ix2 r k)) * dh (ix2 r d) := by
  have e : dGain x dh (ix2 0 d) = ∑ _a : Fin 1, ∑ r : Fin 4096, x (ix2 r d) * Ideal.rsqrt (meanSq x (ix2 r 0)) * dh (ix2 r d) := by
    pointwise [dGain]
  rw [e, Fin.sum_univ_one]
  simp only [meanSq_apply]

end Cert.Reference3Ideal.Value

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Reference3Ideal.Value (dRows dRows_apply dx dx_apply pull_apply dGain dGain_apply)

/-! ### The kernel's values at an entry -/

theorem pay6_apply (v27 : FVec Ideal S256x1024 .f32) (v29 : FVec Ideal S256x512 .bf16) (v30 : Vec Ideal S512x1024 .bf16)
    (v34 : Vec Ideal S256x2560 .bf16) (v36 : Vec Ideal S2560x1024 .bf16) (r : Fin 256) (d : Fin 1024) :
    k0_pay6 v27 v29 v30 v34 v36 (ix2 r d) = v27 (ix2 r d) + ∑ k : Fin 512, v29 (ix2 r k) * v30 (ix2 k d)
      + ∑ k : Fin 2560, v34 (ix2 r k) * v36 (ix2 k d) := by
  pointwise [k0_pay6]

theorem pay4_apply (v4 : Vec Ideal S256x768 .bf16) (v6 : Vec Ideal S768x1024 .bf16) (v10 : Vec Ideal S256x512 .bf16)
    (v12 : Vec Ideal S512x1024 .bf16) (v16 : Vec Ideal S256x512 .bf16) (v18 : Vec Ideal S512x1024 .bf16) (v22 : Vec Ideal S256x512 .bf16)
    (v24 : Vec Ideal S512x1024 .bf16) (r : Fin 256) (d : Fin 1024) :
    k0_pay4 v4 v6 v10 v12 v16 v18 v22 v24 (ix2 r d) = ∑ k : Fin 768, v4 (ix2 r k) * v6 (ix2 k d)
      + ∑ k : Fin 512, v10 (ix2 r k) * v12 (ix2 k d) + ∑ k : Fin 512, v16 (ix2 r k) * v18 (ix2 k d)
      + ∑ k : Fin 512, v22 (ix2 r k) * v24 (ix2 k d) := by
  pointwise [k0_pay4]

theorem pay8_apply (v40 : Vec Ideal S256x1024 .f32) (r : Fin 256) (d : Fin 1024) :
    k0_pay8 v40 (ix2 r d) = v40 (ix2 r d) * Ideal.rsqrt (Cert.Norm.sq fun k => v40 (ix2 r k)) := by
  unfold Cert.Norm.sq
  pointwise [k0_pay8, k0_pay7]

theorem pay9_apply (v27 : FVec Ideal S256x1024 .f32) (v29 : FVec Ideal S256x512 .bf16) (v30 : Vec Ideal S512x1024 .bf16)
    (v34 : Vec Ideal S256x2560 .bf16) (v36 : Vec Ideal S2560x1024 .bf16) (v40 : Vec Ideal S256x1024 .f32) (v51 : Vec Ideal S1x1024 .f32)
    (v55 : Vec Ideal S256x1024 .f32) (r : Fin 256) (d : Fin 1024) :
    k0_pay9 v27 v29 v30 v34 v36 v40 v51 v55 (ix2 r d) =
      v55 (ix2 r d) + Ideal.rsqrt (Cert.Norm.sq fun k => v40 (ix2 r k)) *
        (k0_pay6 v27 v29 v30 v34 v36 (ix2 r d) * v51 (ix2 0 d) - v40 (ix2 r d) * Ideal.rsqrt (Cert.Norm.sq fun k => v40 (ix2 r k)) *
          Ideal.div (∑ k : Fin 1024, k0_pay6 v27 v29 v30 v34 v36 (ix2 r k) * v51 (ix2 0 k) *
            (v40 (ix2 r k) * Ideal.rsqrt (Cert.Norm.sq fun k => v40 (ix2 r k)))) (Ideal.ofBits .f32 0x44800000#32)) := by
  unfold k0_pay9
  generalize k0_pay6 v27 v29 v30 v34 v36 = dh
  unfold Cert.Norm.sq
  pointwise [k0_pay7, k0_pay8]

theorem pay1_apply (dh xh : FVec Ideal S256x1024 .f32) (a : Vec Ideal S8x1024 .f32) (r : Fin 8) (d : Fin 1024) :
    k0_pay1 dh xh a (ix2 r d) = a (ix2 r d) + ∑ k : Fin 32, dh (ix2 ⟨k.val * 8 + r.val, by omega⟩ d) * xh (ix2 ⟨k.val * 8 + r.val, by omega⟩ d) := by
  pointwise [k0_pay1]

theorem pay2_apply (a : Vec Ideal S8x1024 .f32) (d : Fin 1024) : k0_pay2 a (ix2 0 d) = ∑ s : Fin 8, a (ix2 s d) := by
  pointwise [k0_pay2]

theorem pay3_apply (r : Fin 8) (d : Fin 1024) : (k0_pay3 : FVec Ideal S8x1024 .f32) (ix2 r d) = 0 := by
  pointwise [k0_pay3]

variable (m : (ℓ : Loc nD τ sig) → Buf (Elt Ideal) ℓ) (c : Dev nD)

/-! ### What the windows hold -/

/-- The gain as a row. -/
def gainRow (g : FVec Ideal S1024 .f32) : FVec Ideal S1x1024 .f32 := broadcastInDim S1x1024 ![1] bcast_S1024_S1x1024_1 g

/-- The weights, transposed. -/
def weightsT (w : FVec Ideal S1024x5376 .f32) : FVec Ideal S5376x1024 .bf16 :=
  truncf .bf16 (transpose S5376x1024 [1, 0] w transposes_S1024x5376_S5376x1024_1_0) bitsLt_bf16_f32

section Pieces

variable (z : FVec Ideal S4096x5376 .f32)

/-- The columns of the attention's q, k and v. -/
def cols0 : FVec Ideal S4096x768 .bf16 := extractStridedSlice S4096x768 ![0, 0] (truncf .bf16 z bitsLt_bf16_f32) slices_S4096x5376_S4096x768_0_0

/-- The columns of the gates. -/
def cols1 : FVec Ideal S4096x3072 .bf16 :=
  concatenate S4096x3072 1 [⟨S4096x512, extractStridedSlice S4096x512 ![0, 768] (truncf .bf16 z bitsLt_bf16_f32) slices_S4096x5376_S4096x512_0_768⟩,
    ⟨S4096x2560, extractStridedSlice S4096x2560 ![0, 2816] (truncf .bf16 z bitsLt_bf16_f32) slices_S4096x5376_S4096x2560_0_2816⟩]
    concatenates_S4096x512_S4096x2560_S4096x3072_d1

/-- The columns of the retention's q, k and v. -/
def cols2 : FVec Ideal S4096x512 .bf16 := extractStridedSlice S4096x512 ![0, 1280] (truncf .bf16 z bitsLt_bf16_f32) slices_S4096x5376_S4096x512_0_1280
def cols3 : FVec Ideal S4096x512 .bf16 := extractStridedSlice S4096x512 ![0, 1792] (truncf .bf16 z bitsLt_bf16_f32) slices_S4096x5376_S4096x512_0_1792
def cols4 : FVec Ideal S4096x512 .bf16 := extractStridedSlice S4096x512 ![0, 2304] (truncf .bf16 z bitsLt_bf16_f32) slices_S4096x5376_S4096x512_0_2304

theorem cols0_apply (r : Fin 4096) (j : Fin 768) : cols0 z (ix2 r j) = z (ix2 r ⟨j.val, by omega⟩) := by
  pointwise [cols0]
theorem cols2_apply (r : Fin 4096) (j : Fin 512) : cols2 z (ix2 r j) = z (ix2 r ⟨1280 + j.val, by omega⟩) := by
  pointwise [cols2]
theorem cols3_apply (r : Fin 4096) (j : Fin 512) : cols3 z (ix2 r j) = z (ix2 r ⟨1792 + j.val, by omega⟩) := by
  pointwise [cols3]
theorem cols4_apply (r : Fin 4096) (j : Fin 512) : cols4 z (ix2 r j) = z (ix2 r ⟨2304 + j.val, by omega⟩) := by
  pointwise [cols4]
theorem cols1_low (r : Fin 4096) (j : Fin 512) : cols1 z (ix2 r ⟨j.val, by omega⟩) = z (ix2 r ⟨768 + j.val, by omega⟩) := by
  pointwise [cols1]
theorem cols1_high (r : Fin 4096) (j : Fin 2560) : cols1 z (ix2 r ⟨512 + j.val, by omega⟩) = z (ix2 r ⟨2816 + j.val, by omega⟩) := by
  pointwise [cols1]

end Pieces

theorem gainRow_apply (g : FVec Ideal S1024 .f32) (d : Fin 1024) : gainRow g (ix2 0 d) = g (ix1 d) := by
  pointwise [gainRow]
theorem weightsT_apply (w : FVec Ideal S1024x5376 .f32) (j : Fin 5376) (d : Fin 1024) : weightsT w (ix2 j d) = w (ix2 d j) := by
  pointwise [weightsT]

theorem V_0 : V m c main_v0 = gainRow (m ((c : Thread nD τ).loc main_arg1)) := by entry_read; rfl
theorem V_2 : V m c main_v2 = weightsT (m ((c : Thread nD τ).loc main_arg2)) := by entry_read; rfl
theorem V_4 : V m c main_v4 = cols0 (m ((c : Thread nD τ).loc main_arg4)) := by entry_read; rfl
theorem V_7 : V m c main_v7 = cols1 (m ((c : Thread nD τ).loc main_arg4)) := by entry_read; rfl
theorem V_8 : V m c main_v8 = cols2 (m ((c : Thread nD τ).loc main_arg4)) := by entry_read; rfl
theorem V_9 : V m c main_v9 = cols3 (m ((c : Thread nD τ).loc main_arg4)) := by entry_read; rfl
theorem V_10 : V m c main_v10 = cols4 (m ((c : Thread nD τ).loc main_arg4)) := by entry_read; rfl
theorem V_arg0 : V m c main_arg0 = m ((c : Thread nD τ).loc main_arg0) := by entry_read; rfl
theorem V_arg3 : V m c main_arg3 = m ((c : Thread nD τ).loc main_arg3) := by entry_read; rfl

/-- Where each window stands at each grid point. -/
theorem idx : ∀ t : Fin cfg0.N,
    win0_0.index t = ![t.val, 0] ∧ win0_1.index t = ![t.val, 0] ∧ win0_2.index t = ![0, 0] ∧ win0_3.index t = ![0, 0] ∧
    win0_4.index t = ![t.val, 0] ∧ win0_5.index t = ![t.val, 0] ∧ win0_6.index t = ![t.val, 0] ∧ win0_7.index t = ![t.val, 0] ∧
    win0_8.index t = ![t.val, 0] ∧ win0_9.index t = ![t.val, 0] ∧ win0_10.index t = ![0, 0] :=
  (by decide +kernel : ∀ t : Fin grid0.N, _)

theorem points (t : Fin cfg0.N) : t.val < 16 := t.isLt

/-- The j-th row of point t. -/
def rr (t : Fin cfg0.N) (j : Fin 256) : Fin 4096 := ⟨t.val * 256 + j.val, by have := points t; omega⟩

theorem block0 (t : Fin cfg0.N) (j : Fin 256) (d : Fin 1024) : iblk m c 0 t (ix2 j d) = m ((c : Thread nD τ).loc main_arg3) (ix2 (rr t j) d) := by
  refine Eq.trans (b := V m c main_arg3 (ix2 (rr t j) d)) ?_ (congrFun (V_arg3 m c) _)
  unfold rr
  blk_ext [iblk, idx t]

theorem block1 (t : Fin cfg0.N) (j : Fin 256) (d : Fin 1024) : iblk m c 1 t (ix2 j d) = m ((c : Thread nD τ).loc main_arg0) (ix2 (rr t j) d) := by
  refine Eq.trans (b := V m c main_arg0 (ix2 (rr t j) d)) ?_ (congrFun (V_arg0 m c) _)
  unfold rr
  blk_ext [iblk, idx t]

theorem block2 (t : Fin cfg0.N) (d : Fin 1024) : iblk m c 2 t (ix2 0 d) = m ((c : Thread nD τ).loc main_arg1) (ix1 d) := by
  refine Eq.trans (b := V m c main_v0 (ix2 0 d)) ?_ ?_
  · blk_ext [iblk, idx t]
  · rw [V_0, gainRow_apply]

theorem block3 (t : Fin cfg0.N) (j : Fin 5376) (d : Fin 1024) : iblk m c 3 t (ix2 j d) = m ((c : Thread nD τ).loc main_arg2) (ix2 d j) := by
  refine Eq.trans (b := V m c main_v2 (ix2 j d)) ?_ ?_
  · blk_ext [iblk, idx t]
  · rw [V_2, weightsT_apply]

theorem block4 (t : Fin cfg0.N) (j : Fin 256) (k : Fin 768) :
    iblk m c 4 t (ix2 j k) = m ((c : Thread nD τ).loc main_arg4) (ix2 (rr t j) ⟨k.val, by omega⟩) := by
  refine Eq.trans (b := V m c main_v4 (ix2 (rr t j) k)) ?_ ?_
  · unfold rr
    blk_ext [iblk, idx t]
  · rw [V_4, cols0_apply]

theorem block5_low (t : Fin cfg0.N) (j : Fin 256) (k : Fin 512) :
    iblk m c 5 t (ix2 j ⟨k.val, by omega⟩) = m ((c : Thread nD τ).loc main_arg4) (ix2 (rr t j) ⟨768 + k.val, by omega⟩) := by
  refine Eq.trans (b := V m c main_v7 (ix2 (rr t j) ⟨k.val, by omega⟩)) ?_ ?_
  · unfold rr
    blk_ext [iblk, idx t]
  · rw [V_7, cols1_low]

theorem block5_high (t : Fin cfg0.N) (j : Fin 256) (k : Fin 2560) :
    iblk m c 5 t (ix2 j ⟨512 + k.val, by omega⟩) = m ((c : Thread nD τ).loc main_arg4) (ix2 (rr t j) ⟨2816 + k.val, by omega⟩) := by
  refine Eq.trans (b := V m c main_v7 (ix2 (rr t j) ⟨512 + k.val, by omega⟩)) ?_ ?_
  · unfold rr
    blk_ext [iblk, idx t]
  · rw [V_7, cols1_high]

theorem block6 (t : Fin cfg0.N) (j : Fin 256) (k : Fin 512) :
    iblk m c 6 t (ix2 j k) = m ((c : Thread nD τ).loc main_arg4) (ix2 (rr t j) ⟨1280 + k.val, by omega⟩) := by
  refine Eq.trans (b := V m c main_v8 (ix2 (rr t j) k)) ?_ ?_
  · unfold rr
    blk_ext [iblk, idx t]
  · rw [V_8, cols2_apply]

theorem block7 (t : Fin cfg0.N) (j : Fin 256) (k : Fin 512) :
    iblk m c 7 t (ix2 j k) = m ((c : Thread nD τ).loc main_arg4) (ix2 (rr t j) ⟨1792 + k.val, by omega⟩) := by
  refine Eq.trans (b := V m c main_v9 (ix2 (rr t j) k)) ?_ ?_
  · unfold rr
    blk_ext [iblk, idx t]
  · rw [V_9, cols3_apply]

theorem block8 (t : Fin cfg0.N) (j : Fin 256) (k : Fin 512) :
    iblk m c 8 t (ix2 j k) = m ((c : Thread nD τ).loc main_arg4) (ix2 (rr t j) ⟨2304 + k.val, by omega⟩) := by
  refine Eq.trans (b := V m c main_v10 (ix2 (rr t j) k)) ?_ ?_
  · unfold rr
    blk_ext [iblk, idx t]
  · rw [V_10, cols4_apply]

/-! ### The product over the six pieces -/

/-- The columns, piece by piece. -/
theorem six {M : Type*} [AddCommMonoid M] (f : Fin 5376 → M) :
    ∑ k : Fin 768, f ⟨k.val, by omega⟩ + ∑ k : Fin 512, f ⟨768 + k.val, by omega⟩ + ∑ k : Fin 512, f ⟨1280 + k.val, by omega⟩
      + ∑ k : Fin 512, f ⟨1792 + k.val, by omega⟩ + ∑ k : Fin 512, f ⟨2304 + k.val, by omega⟩ + ∑ k : Fin 2560, f ⟨2816 + k.val, by omega⟩
    = ∑ k, f k := by
  rw [Fin.sum_univ_two_halves 2816 2560 (by norm_num) f,
    Fin.sum_univ_two_halves 2304 512 (by norm_num) (fun k : Fin 2816 => f ⟨k.val, by omega⟩),
    Fin.sum_univ_two_halves 1792 512 (by norm_num) (fun k : Fin 2304 => f ⟨k.val, by omega⟩),
    Fin.sum_univ_two_halves 1280 512 (by norm_num) (fun k : Fin 1792 => f ⟨k.val, by omega⟩),
    Fin.sum_univ_two_halves 768 512 (by norm_num) (fun k : Fin 1280 => f ⟨k.val, by omega⟩)]

/-- What point t computes of the gradient of the scaled rows. -/
def dhB (t : Fin cfg0.N) : FVec Ideal S256x1024 .f32 :=
  k0_pay6 (k0_pay4 (iblk m c 4 t) (View.ld (iblk m c 3 t) (Rect.unit ![0, 0] ![768, 1024] inb_S5376x1024_S768x1024_0_0))
      (View.ld (iblk m c 5 t) (Rect.unit ![0, 0] ![256, 512] inb_S256x3072_S256x512_0_0))
      (View.ld (iblk m c 3 t) (Rect.unit ![768, 0] ![512, 1024] inb_S5376x1024_S512x1024_768_0)) (iblk m c 6 t)
      (View.ld (iblk m c 3 t) (Rect.unit ![1280, 0] ![512, 1024] inb_S5376x1024_S512x1024_1280_0)) (iblk m c 7 t)
      (View.ld (iblk m c 3 t) (Rect.unit ![1792, 0] ![512, 1024] inb_S5376x1024_S512x1024_1792_0)))
    (k0_pay5 (iblk m c 8 t))
    (View.ld (iblk m c 3 t) (Rect.unit ![2304, 0] ![512, 1024] inb_S5376x1024_S512x1024_2304_0))
    (View.ld (iblk m c 5 t) (Rect.unit ![0, 512] ![256, 2560] inb_S256x3072_S256x2560_0_512))
    (View.ld (iblk m c 3 t) (Rect.unit ![2816, 0] ![2560, 1024] inb_S5376x1024_S2560x1024_2816_0))

/-- The reference's gradient of the scaled rows. -/
def dh : FVec Ideal S4096x1024 .f32 := dRows (m ((c : Thread nD τ).loc main_arg2)) (m ((c : Thread nD τ).loc main_arg4))

section Loads

variable (W : Vec Ideal S5376x1024 .bf16) (Z : Vec Ideal S256x3072 .bf16)

theorem ld_0 (k : Fin 768) (d : Fin 1024) : View.ld W (Rect.unit ![0, 0] ![768, 1024] inb_S5376x1024_S768x1024_0_0) (ix2 k d) = W (ix2 ⟨k.val, by omega⟩ d) := by
  pointwise []
theorem ld_768 (k : Fin 512) (d : Fin 1024) : View.ld W (Rect.unit ![768, 0] ![512, 1024] inb_S5376x1024_S512x1024_768_0) (ix2 k d) = W (ix2 ⟨768 + k.val, by omega⟩ d) := by
  pointwise []
theorem ld_1280 (k : Fin 512) (d : Fin 1024) : View.ld W (Rect.unit ![1280, 0] ![512, 1024] inb_S5376x1024_S512x1024_1280_0) (ix2 k d) = W (ix2 ⟨1280 + k.val, by omega⟩ d) := by
  pointwise []
theorem ld_1792 (k : Fin 512) (d : Fin 1024) : View.ld W (Rect.unit ![1792, 0] ![512, 1024] inb_S5376x1024_S512x1024_1792_0) (ix2 k d) = W (ix2 ⟨1792 + k.val, by omega⟩ d) := by
  pointwise []
theorem ld_2304 (k : Fin 512) (d : Fin 1024) : View.ld W (Rect.unit ![2304, 0] ![512, 1024] inb_S5376x1024_S512x1024_2304_0) (ix2 k d) = W (ix2 ⟨2304 + k.val, by omega⟩ d) := by
  pointwise []
theorem ld_2816 (k : Fin 2560) (d : Fin 1024) : View.ld W (Rect.unit ![2816, 0] ![2560, 1024] inb_S5376x1024_S2560x1024_2816_0) (ix2 k d) = W (ix2 ⟨2816 + k.val, by omega⟩ d) := by
  pointwise []
theorem ld_low (j : Fin 256) (k : Fin 512) : View.ld Z (Rect.unit ![0, 0] ![256, 512] inb_S256x3072_S256x512_0_0) (ix2 j k) = Z (ix2 j ⟨k.val, by omega⟩) := by
  pointwise []
theorem ld_high (j : Fin 256) (k : Fin 2560) : View.ld Z (Rect.unit ![0, 512] ![256, 2560] inb_S256x3072_S256x2560_0_512) (ix2 j k) = Z (ix2 j ⟨512 + k.val, by omega⟩) := by
  pointwise []

end Loads

theorem pay5_eq (v : Vec Ideal S256x512 .bf16) (j : Fin 256) (k : Fin 512) : k0_pay5 v (ix2 j k) = v (ix2 j k) := by
  pointwise [k0_pay5]

/-- The product over the pieces, of any blocks. -/
theorem product_apply (A : Vec Ideal S256x768 .bf16) (Z : Vec Ideal S256x3072 .bf16) (Q K U : Vec Ideal S256x512 .bf16) (W : Vec Ideal S5376x1024 .bf16)
    (j : Fin 256) (d : Fin 1024) :
    k0_pay6 (k0_pay4 A (View.ld W (Rect.unit ![0, 0] ![768, 1024] inb_S5376x1024_S768x1024_0_0))
      (View.ld Z (Rect.unit ![0, 0] ![256, 512] inb_S256x3072_S256x512_0_0))
      (View.ld W (Rect.unit ![768, 0] ![512, 1024] inb_S5376x1024_S512x1024_768_0)) Q
      (View.ld W (Rect.unit ![1280, 0] ![512, 1024] inb_S5376x1024_S512x1024_1280_0)) K
      (View.ld W (Rect.unit ![1792, 0] ![512, 1024] inb_S5376x1024_S512x1024_1792_0)))
    (k0_pay5 U)
    (View.ld W (Rect.unit ![2304, 0] ![512, 1024] inb_S5376x1024_S512x1024_2304_0))
    (View.ld Z (Rect.unit ![0, 512] ![256, 2560] inb_S256x3072_S256x2560_0_512))
    (View.ld W (Rect.unit ![2816, 0] ![2560, 1024] inb_S5376x1024_S2560x1024_2816_0)) (ix2 j d)
    = ∑ k : Fin 768, A (ix2 j k) * W (ix2 ⟨k.val, by omega⟩ d) + ∑ k : Fin 512, Z (ix2 j ⟨k.val, by omega⟩) * W (ix2 ⟨768 + k.val, by omega⟩ d)
      + ∑ k : Fin 512, Q (ix2 j k) * W (ix2 ⟨1280 + k.val, by omega⟩ d) + ∑ k : Fin 512, K (ix2 j k) * W (ix2 ⟨1792 + k.val, by omega⟩ d)
      + ∑ k : Fin 512, U (ix2 j k) * W (ix2 ⟨2304 + k.val, by omega⟩ d)
      + ∑ k : Fin 2560, Z (ix2 j ⟨512 + k.val, by omega⟩) * W (ix2 ⟨2816 + k.val, by omega⟩ d) := by
  rw [pay6_apply, pay4_apply]
  refine congrArg₂ (· + ·) (congrArg₂ (· + ·) (congrArg₂ (· + ·) (congrArg₂ (· + ·) (congrArg₂ (· + ·) ?_ ?_) ?_) ?_) ?_) ?_
  · exact Finset.sum_congr rfl fun k _ => congrArg (A (ix2 j k) * ·) (ld_0 W k d)
  · exact Finset.sum_congr rfl fun k _ => congrArg₂ (· * ·) (ld_low Z j k) (ld_768 W k d)
  · exact Finset.sum_congr rfl fun k _ => congrArg (Q (ix2 j k) * ·) (ld_1280 W k d)
  · exact Finset.sum_congr rfl fun k _ => congrArg (K (ix2 j k) * ·) (ld_1792 W k d)
  · exact Finset.sum_congr rfl fun k _ => congrArg₂ (· * ·) (pay5_eq U j k) (ld_2304 W k d)
  · exact Finset.sum_congr rfl fun k _ => congrArg₂ (· * ·) (ld_high Z j k) (ld_2816 W k d)

theorem dhB_apply (t : Fin cfg0.N) (j : Fin 256) (d : Fin 1024) : dhB m c t (ix2 j d) = dh m c (ix2 (rr t j) d) := by
  rw [dh, dRows_apply, ← six, dhB]
  refine (product_apply _ _ _ _ _ _ j d).trans ?_
  simp only [block3, block4, block5_low, block5_high, block6, block7, block8]

/-! ### The two arrays -/

/-- The reference's gradient of the rows. -/
def resultX : FVec Ideal S4096x1024 .f32 :=
  dx (m ((c : Thread nD τ).loc main_arg0)) (m ((c : Thread nD τ).loc main_arg1)) (m ((c : Thread nD τ).loc main_arg3)) (dh m c)

/-- The reference's gradient of the gain. -/
def resultG : FVec Ideal S1x1024 .f32 := dGain (m ((c : Thread nD τ).loc main_arg0)) (dh m c)

theorem pay9_result (t : Fin cfg0.N) (v27 : FVec Ideal S256x1024 .f32) (v29 : FVec Ideal S256x512 .bf16) (v30 : Vec Ideal S512x1024 .bf16)
    (v34 : Vec Ideal S256x2560 .bf16) (v36 : Vec Ideal S2560x1024 .bf16) (h : k0_pay6 v27 v29 v30 v34 v36 = dhB m c t) (j : Fin 256) (d : Fin 1024) :
    k0_pay9 v27 v29 v30 v34 v36 (iblk m c 1 t) (iblk m c 2 t) (iblk m c 0 t) (ix2 j d) = resultX m c (ix2 (rr t j) d) := by
  rw [pay9_apply, h]
  simp only [dhB_apply, block0, block1, block2]
  rw [resultX, dx_apply, pull_apply]
  exact Cert.Norm.entry (fun k => m ((c : Thread nD τ).loc main_arg0) (ix2 (rr t j) k))
    (fun k => dh m c (ix2 (rr t j) k) * m ((c : Thread nD τ).loc main_arg1) (ix1 k)) _ _ _

/-- The block of the rows' gradient a point leaves. -/
theorem pointX (t : Fin cfg0.N) (j : Fin 256) (d : Fin 1024) :
    (outsAt0 m c t.val t.isLt).1 (ix2 j d) = resultX m c (ix2 (rr t j) d) := by
  by_cases h0 : t.val % 16 = 0
  · rw [outsAt0_A m c t h0 (by omega), ← pay9_result m c t _ _ _ _ _ rfl]
    frame_open
    frame_out
    rfl
  by_cases h1 : t.val % 16 = 15
  · rw [outsAt0_C m c t h0 h1, ← pay9_result m c t _ _ _ _ _ rfl]
    frame_open
    frame_out
    rfl
  · rw [outsAt0_B m c t h0 h1, ← pay9_result m c t _ _ _ _ _ rfl]
    frame_open
    frame_out
    rfl

/-- What a row adds to the gain's gradient. -/
def rowTerm (x h : FVec Ideal S4096x1024 .f32) (r : Fin 4096) (d : Fin 1024) : EReal :=
  x (ix2 r d) * Ideal.rsqrt (Cert.Norm.sq fun k => x (ix2 r k)) * h (ix2 r d)

/-- The same at the launch's arrays. -/
def term (r : Fin 4096) (d : Fin 1024) : EReal := rowTerm (m ((c : Thread nD τ).loc main_arg0)) (dh m c) r d

theorem pay1_result (t : Fin cfg0.N) (a : Vec Ideal S8x1024 .f32) (s : Fin 8) (d : Fin 1024) :
    k0_pay1 (dhB m c t) (k0_pay8 (iblk m c 1 t)) a (ix2 s d) = a (ix2 s d) + ∑ k : Fin 32, term m c (rr t ⟨k.val * 8 + s.val, by omega⟩) d := by
  rw [pay1_apply]
  congr 1
  refine Finset.sum_congr rfl fun k _ => ?_
  rw [pay8_apply]
  simp only [dhB_apply, block1]
  rw [term, rowTerm, mul_comm]

/-- What the running sum takes in at a point. -/
def step (t : Fin cfg0.N) (i : S8x1024.Idx) : EReal := ∑ k : Fin 32, term m c (rr t ⟨k.val * 8 + (i 0).val, by have : (i 0).val < 8 := (i 0).isLt; omega⟩) (i 1)

theorem accFirst (t : Fin cfg0.N) (h0 : t.val % 16 = 0) (i : S8x1024.Idx) : (outsAt0 m c t.val t.isLt).2.2 i = 0 + step m c t i := by
  idx_vars i
  have e := pay1_result m c t (k0_pay3 : FVec Ideal S8x1024 .f32) i0 i1
  rw [pay3_apply] at e
  refine Eq.trans ?_ e
  rw [outsAt0_A m c t h0 (by omega)]
  frame_open
  frame_out
  rfl

theorem accNext (t : Fin cfg0.N) (h0 : ¬t.val % 16 = 0) (i : S8x1024.Idx) :
    (outsAt0 m c t.val t.isLt).2.2 i = (outsAt0 m c (t.val - 1) (Nat.lt_of_le_of_lt (Nat.sub_le _ _) t.isLt)).2.2 i + step m c t i := by
  idx_vars i
  refine Eq.trans ?_ (pay1_result m c t (outsAt0 m c (t.val - 1) (Nat.lt_of_le_of_lt (Nat.sub_le _ _) t.isLt)).2.2 i0 i1)
  by_cases h1 : t.val % 16 = 15
  · rw [outsAt0_C m c t h0 h1]
    frame_open
    frame_out
    exact congrArg (fun a => k0_pay1 (dhB m c t) (k0_pay8 (iblk m c 1 t)) a (ix2 i0 i1)) (Memref.IsWhole.read_unread (Memref.isWhole_whole _) _)
  · rw [outsAt0_B m c t h0 h1]
    frame_open
    frame_out
    exact congrArg (fun a => k0_pay1 (dhB m c t) (k0_pay8 (iblk m c 1 t)) a (ix2 i0 i1)) (Memref.IsWhole.read_unread (Memref.isWhole_whole _) _)

/-- The running sum at the last point: every row's term. -/
theorem accLast (t : Fin cfg0.N) (ht : t.val + 1 = cfg0.N) (s : Fin 8) (d : Fin 1024) :
    (outsAt0 m c t.val t.isLt).2.2 (ix2 s d) = ∑ p : Fin cfg0.N, step m c p (ix2 s d) := by
  rw [Pipeline.eq_sum_fin_of_reset_step_apply_last (fun n h => (outsAt0 m c n h).2.2) 16 (fun _ => (0 : EReal)) (step m c)
    (fun t h i => accFirst m c t h i) (fun t h i => accNext m c t h i) (le_of_eq N_0) t ht (ix2 s d), zero_add]

/-- The rows, eight at a time. -/
theorem regroup {M : Type*} [AddCommMonoid M] (f : Fin 4096 → M) :
    ∑ s : Fin 8, ∑ p : Fin 16, ∑ k : Fin 32, f ⟨p.val * 256 + (k.val * 8 + s.val), by omega⟩ = ∑ r, f r := by
  rw [Fin.sum_univ_tiles 16 256 (by norm_num) f, Finset.sum_comm]
  refine Finset.sum_congr rfl fun p _ => ?_
  rw [Fin.sum_univ_tiles 32 8 (by norm_num) (fun j : Fin 256 => f ⟨p.val * 256 + j.val, by omega⟩), Finset.sum_comm]

/-- The gain's gradient, at the last point. -/
theorem pointG (t : Fin cfg0.N) (h0 : ¬t.val % 16 = 0) (h1 : t.val % 16 = 15) (d : Fin 1024) :
    (outsAt0 m c t.val t.isLt).2.1 (ix2 0 d) = resultG m c (ix2 0 d) := by
  have hp := points t
  have e : (outsAt0 m c t.val t.isLt).2.1 (ix2 0 d) = k0_pay2 (outsAt0 m c t.val t.isLt).2.2 (ix2 0 d) := by
    rw [outsAt0_C m c t h0 h1]
    frame_open
    frame_out
  rw [e, pay2_apply, resultG, dGain_apply]
  simp only [accLast m c t (by show t.val + 1 = grid0.N; rw [N_0]; omega)]
  exact regroup fun r => term m c r d

theorem placeX (Y : FVec Ideal S4096x1024 .f32) (t : Fin cfg0.N) (j : Fin 256) (d : Fin 1024) :
    Y (((cfg0.win 9).blk t).view.emb (ix2 j d)) = Y (ix2 (rr t j) d) := by
  have := points t
  unfold rr
  blk_ext [idx t]

theorem placeG (Y : FVec Ideal S1x1024 .f32) (t : Fin cfg0.N) (d : Fin 1024) :
    Y (((cfg0.win 10).blk t).view.emb (ix2 0 d)) = Y (ix2 0 d) := by
  have := points t
  blk_ext [idx t]

/-- The kernel's first array is the reference's. -/
theorem finalX : (dats m 0 c).arrAt 9 cfg0.N = resultX m c := by
  refine (dats m 0 c).arrAt_eq_of_covers 9 _ (by decide +kernel) fun t hf y => ?_
  blk_simp
  rw [after0_9]
  idx_vars y
  exact (pointX m c t y0 y1).trans (placeX _ t y0 y1).symm

/-- The kernel's second array is the reference's. -/
theorem finalG : (dats m 0 c).arrAt 10 cfg0.N = resultG m c := by
  refine (dats m 0 c).arrAt_eq_of_covers 10 _ (by decide +kernel) fun t hf y => ?_
  have h1 := (flush0_10 t).1 hf
  blk_simp
  rw [after0_10]
  idx_vars y
  obtain rfl : y0 = 0 := Subsingleton.elim _ _
  exact (pointG m c t (by omega) h1 y1).trans (placeG _ t y1).symm

end Cert.Kernel3Ideal.Value

namespace Cert.NormGrad

open Idealize.ShloMosaic Idealize.SL.Sem

/-- The gradients of the rows and of the gain: kernel and reference leave the same arrays, on all arguments. -/
theorem algebraic : Cert.algebraic_Kernel3Ideal_Reference3Ideal (hKernel3Ideal := Cert.Kernel3Ideal.Gen.facts)
    (hReference3Ideal := Cert.Reference3Ideal.Gen.facts) := by
  intro m g m' g' hpre hagree
  refine ⟨_, _, Cert.Kernel3Ideal.Value.run m g, ?_⟩
  refine (θ_run Cert.Reference3Ideal.defs _ _).mono (fun r h c => ?_) (Cert.Reference3Ideal.Value.run_named m' g')
  obtain ⟨h0, h1, h2, h3, h4⟩ := hagree c
  obtain ⟨e0, e1, e2⟩ := h c
  rw [h0, h1, h2, h3, h4] at e0
  rw [h0, h2, h4] at e1
  exact ⟨e0.trans ((Cert.Kernel3Ideal.Value.finalX m c).symm.trans (Cert.Kernel3Ideal.Value.final9 m c)),
    e1.trans ((Cert.Kernel3Ideal.Value.finalG m c).symm.trans (Cert.Kernel3Ideal.Value.final10 m c)), e2⟩

/-- The reference runs and keeps its arguments. -/
theorem reference_frame : Cert.quiescent_Reference3Ideal (hReference3Ideal := Cert.Reference3Ideal.Gen.facts) := by
  intro m g _
  exact (θ_run Cert.Reference3Ideal.defs _ _).mono
    (fun r h => ⟨fun c => (h c).2.2, sem_eq_zero_of_no_sems (by decide) r.2⟩) (Cert.Reference3Ideal.Value.run_named m g)

end Cert.NormGrad

end

end
-- ==== Proof.WGrad.lean ====
/- The gradient of the projection's weights: the kernel's array, block by block over six pieces of the columns' gradient, is the reference's one product. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Reference4Ideal.Value

open Cert.Reference4Ideal Cert.Reference4Ideal.Gen Idealize.ShloMosaic Idealize.ShloMosaic.TcCoe Idealize.SL.Sem

variable (x : FVec Ideal S4096x1024 .f32) (g : FVec Ideal S1024 .f32) (dz : FVec Ideal S4096x5376 .f32)

/-- The normalised rows. -/
def rows : FVec Ideal S4096x1024 .f32 :=
  mulf (mulf x (broadcastInDim S4096x1024 ![0, 1] bcast_S4096x1_S4096x1024_0_1
    (Host.rsqrt (addf (Host.divf (broadcastInDim S4096x1 ![0] bcast_S4096_S4096x1_0
      (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- The gradient of the weights from the normalised rows h, transposed. -/
def dWeight (h : FVec Ideal S4096x1024 .f32) : FVec Ideal S5376x1024 .bf16 :=
  truncf .bf16 (transpose S5376x1024 [1, 0] (transpose S1024x5376 [1, 0]
    (Host.dotGeneral dot_S4096x5376_S4096x1024_S5376x1024_0_0_1_1_n_n none dz h)
    transposes_S5376x1024_S1024x5376_1_0) transposes_S1024x5376_S5376x1024_1_0) bitsLt_bf16_f32

/-- The reference's run, its result by this name. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = dWeight (m ((c.tc : Thread nD τ).loc main_arg2))
        (rows (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

theorem dWeight_apply (h : FVec Ideal S4096x1024 .f32) (j : Fin 5376) (d : Fin 1024) :
    dWeight dz h (ix2 j d) = ∑ r : Fin 4096, dz (ix2 r j) * h (ix2 r d) := by
  pointwise [dWeight]

end Cert.Reference4Ideal.Value

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Reference4Ideal.Value (rows dWeight dWeight_apply)

/-- One block of 256 weights' rows. -/
theorem pay1_apply (h : Vec Ideal S1024x4096 .bf16) (z : Vec Ideal S4096x256 .bf16) (j : Fin 256) (d : Fin 1024) :
    k0_pay1 h z (ix2 j d) = ∑ r : Fin 4096, h (ix2 d r) * z (ix2 r j) := by
  pointwise [k0_pay1]

variable (m : (ℓ : Loc nD τ sig) → Buf (Elt Ideal) ℓ) (c : Dev nD)

/-- The rows, transposed. -/
theorem rowsT (d : Fin 1024) (r : Fin 4096) :
    V m c main_v14 (ix2 d r) = rows (m ((c : Thread nD τ).loc main_arg0)) (m ((c : Thread nD τ).loc main_arg1)) (ix2 r d) := by
  have e : V m c main_v14 = truncf .bf16 (transpose S1024x4096 [1, 0] (rows (m ((c : Thread nD τ).loc main_arg0)) (m ((c : Thread nD τ).loc main_arg1)))
    transposes_S4096x1024_S1024x4096_1_0) bitsLt_bf16_f32 := by entry_read; rfl
  rw [e]
  generalize rows _ _ = h
  pointwise []

section Pieces

variable (z : FVec Ideal S4096x5376 .f32)

/-- The columns of the attention's q, k and v. -/
def cols0 : FVec Ideal S4096x768 .bf16 := extractStridedSlice S4096x768 ![0, 0] (truncf .bf16 z bitsLt_bf16_f32) slices_S4096x5376_S4096x768_0_0

/-- The columns of the gates. -/
def cols1 : FVec Ideal S4096x3072 .bf16 :=
  concatenate S4096x3072 1 [⟨S4096x512, extractStridedSlice S4096x512 ![0, 768] (truncf .bf16 z bitsLt_bf16_f32) slices_S4096x5376_S4096x512_0_768⟩,
    ⟨S4096x2560, extractStridedSlice S4096x2560 ![0, 2816] (truncf .bf16 z bitsLt_bf16_f32) slices_S4096x5376_S4096x2560_0_2816⟩]
    concatenates_S4096x512_S4096x2560_S4096x3072_d1

/-- The columns of the retention's q, k and v. -/
def cols2 : FVec Ideal S4096x512 .bf16 := extractStridedSlice S4096x512 ![0, 1280] (truncf .bf16 z bitsLt_bf16_f32) slices_S4096x5376_S4096x512_0_1280
def cols3 : FVec Ideal S4096x512 .bf16 := extractStridedSlice S4096x512 ![0, 1792] (truncf .bf16 z bitsLt_bf16_f32) slices_S4096x5376_S4096x512_0_1792
def cols4 : FVec Ideal S4096x512 .bf16 := extractStridedSlice S4096x512 ![0, 2304] (truncf .bf16 z bitsLt_bf16_f32) slices_S4096x5376_S4096x512_0_2304

theorem cols0_apply (r : Fin 4096) (j : Fin 768) : cols0 z (ix2 r j) = z (ix2 r ⟨j.val, by omega⟩) := by
  pointwise [cols0]
theorem cols2_apply (r : Fin 4096) (j : Fin 512) : cols2 z (ix2 r j) = z (ix2 r ⟨1280 + j.val, by omega⟩) := by
  pointwise [cols2]
theorem cols3_apply (r : Fin 4096) (j : Fin 512) : cols3 z (ix2 r j) = z (ix2 r ⟨1792 + j.val, by omega⟩) := by
  pointwise [cols3]
theorem cols4_apply (r : Fin 4096) (j : Fin 512) : cols4 z (ix2 r j) = z (ix2 r ⟨2304 + j.val, by omega⟩) := by
  pointwise [cols4]
theorem cols1_low (r : Fin 4096) (j : Fin 512) : cols1 z (ix2 r ⟨j.val, by omega⟩) = z (ix2 r ⟨768 + j.val, by omega⟩) := by
  pointwise [cols1]
theorem cols1_high (r : Fin 4096) (j : Fin 2560) : cols1 z (ix2 r ⟨512 + j.val, by omega⟩) = z (ix2 r ⟨2816 + j.val, by omega⟩) := by
  pointwise [cols1]

end Pieces

theorem V_0 : V m c main_v16 = cols0 (m ((c : Thread nD τ).loc main_arg2)) := by entry_read; rfl
theorem V_1 : V m c main_v19 = cols1 (m ((c : Thread nD τ).loc main_arg2)) := by entry_read; rfl
theorem V_2 : V m c main_v20 = cols2 (m ((c : Thread nD τ).loc main_arg2)) := by entry_read; rfl
theorem V_3 : V m c main_v21 = cols3 (m ((c : Thread nD τ).loc main_arg2)) := by entry_read; rfl
theorem V_4 : V m c main_v22 = cols4 (m ((c : Thread nD τ).loc main_arg2)) := by entry_read; rfl

/-- Where each window stands at each grid point. -/
theorem idx : ∀ t : Fin cfg0.N,
    win0_0.index t = ![0, 0] ∧ win0_6.index t = ![t.val, 0] ∧
    (t.val < 3 → win0_1.index t = ![0, t.val]) ∧ (3 ≤ t.val → t.val < 5 → win0_2.index t = ![0, t.val - 3]) ∧
    (5 ≤ t.val → t.val < 7 → win0_3.index t = ![0, t.val - 5]) ∧ (7 ≤ t.val → t.val < 9 → win0_4.index t = ![0, t.val - 7]) ∧
    (9 ≤ t.val → t.val < 11 → win0_5.index t = ![0, t.val - 9]) ∧ (11 ≤ t.val → win0_2.index t = ![0, t.val - 9]) :=
  (by decide +kernel : ∀ t : Fin grid0.N, _)

theorem points (t : Fin cfg0.N) : t.val < 21 := t.isLt

/-- The j-th weights' row of point t. -/
def jj (t : Fin cfg0.N) (j : Fin 256) : Fin 5376 := ⟨t.val * 256 + j.val, by have := points t; omega⟩

theorem block0 (t : Fin cfg0.N) (d : Fin 1024) (r : Fin 4096) : iblk m c 0 t (ix2 d r) = V m c main_v14 (ix2 d r) := by
  blk_ext [iblk, idx t]

theorem block1 (t : Fin cfg0.N) (h : t.val < 3) (r : Fin 4096) (j : Fin 256) :
    iblk m c 1 t (ix2 r j) = m ((c : Thread nD τ).loc main_arg2) (ix2 r (jj t j)) := by
  refine Eq.trans (b := V m c main_v16 (ix2 r ⟨t.val * 256 + j.val, by omega⟩)) ?_ ?_
  · blk_ext [iblk, (idx t).2.2.1 h]
  · rw [V_0, cols0_apply]; rfl

theorem block3 (t : Fin cfg0.N) (h : 5 ≤ t.val) (h' : t.val < 7) (r : Fin 4096) (j : Fin 256) :
    iblk m c 3 t (ix2 r j) = m ((c : Thread nD τ).loc main_arg2) (ix2 r (jj t j)) := by
  obtain ⟨-, -, -, -, h5, h7, h9, -⟩ := idx t
  refine Eq.trans (b := V m c main_v20 (ix2 r ⟨(t.val - 5) * 256 + j.val, by omega⟩)) ?_ ?_
  · blk_ext [iblk, h5 h h']
  · rw [V_2, cols2_apply]
    exact congrArg (fun a => m ((c : Thread nD τ).loc main_arg2) (ix2 r a)) (Fin.ext (by simp only [jj]; omega))

theorem block4 (t : Fin cfg0.N) (h : 7 ≤ t.val) (h' : t.val < 9) (r : Fin 4096) (j : Fin 256) :
    iblk m c 4 t (ix2 r j) = m ((c : Thread nD τ).loc main_arg2) (ix2 r (jj t j)) := by
  obtain ⟨-, -, -, -, h5, h7, h9, -⟩ := idx t
  refine Eq.trans (b := V m c main_v21 (ix2 r ⟨(t.val - 7) * 256 + j.val, by omega⟩)) ?_ ?_
  · blk_ext [iblk, h7 h h']
  · rw [V_3, cols3_apply]
    exact congrArg (fun a => m ((c : Thread nD τ).loc main_arg2) (ix2 r a)) (Fin.ext (by simp only [jj]; omega))

theorem block5 (t : Fin cfg0.N) (h : 9 ≤ t.val) (h' : t.val < 11) (r : Fin 4096) (j : Fin 256) :
    iblk m c 5 t (ix2 r j) = m ((c : Thread nD τ).loc main_arg2) (ix2 r (jj t j)) := by
  obtain ⟨-, -, -, -, h5, h7, h9, -⟩ := idx t
  refine Eq.trans (b := V m c main_v22 (ix2 r ⟨(t.val - 9) * 256 + j.val, by omega⟩)) ?_ ?_
  · blk_ext [iblk, h9 h h']
  · rw [V_4, cols4_apply]
    exact congrArg (fun a => m ((c : Thread nD τ).loc main_arg2) (ix2 r a)) (Fin.ext (by simp only [jj]; omega))

theorem block2_low (t : Fin cfg0.N) (h : 3 ≤ t.val) (h' : t.val < 5) (r : Fin 4096) (j : Fin 256) :
    iblk m c 2 t (ix2 r j) = m ((c : Thread nD τ).loc main_arg2) (ix2 r (jj t j)) := by
  obtain ⟨-, -, -, h3, -⟩ := idx t
  refine Eq.trans (b := V m c main_v19 (ix2 r ⟨(⟨(t.val - 3) * 256 + j.val, by omega⟩ : Fin 512).val, by omega⟩)) ?_ ?_
  · blk_ext [iblk, h3 h h']
  · rw [V_1, cols1_low]
    exact congrArg (fun a => m ((c : Thread nD τ).loc main_arg2) (ix2 r a)) (Fin.ext (by simp only [jj]; omega))

theorem block2_high (t : Fin cfg0.N) (h : 11 ≤ t.val) (r : Fin 4096) (j : Fin 256) :
    iblk m c 2 t (ix2 r j) = m ((c : Thread nD τ).loc main_arg2) (ix2 r (jj t j)) := by
  have := points t
  obtain ⟨-, -, -, -, -, -, -, h11⟩ := idx t
  refine Eq.trans (b := V m c main_v19 (ix2 r ⟨512 + (⟨(t.val - 11) * 256 + j.val, by omega⟩ : Fin 2560).val, by omega⟩)) ?_ ?_
  · blk_ext [iblk, h11 h]
  · rw [V_1, cols1_high]
    exact congrArg (fun a => m ((c : Thread nD τ).loc main_arg2) (ix2 r a)) (Fin.ext (by simp only [jj]; omega))

/-- The reference's result. -/
def result : FVec Ideal S5376x1024 .bf16 :=
  dWeight (m ((c : Thread nD τ).loc main_arg2)) (rows (m ((c : Thread nD τ).loc main_arg0)) (m ((c : Thread nD τ).loc main_arg1)))

/-- One block's product is the reference's, where its columns are the whole gradient's. -/
theorem pay_result (t : Fin cfg0.N) (z : Vec Ideal S4096x256 .bf16)
    (hz : ∀ r j, z (ix2 r j) = m ((c : Thread nD τ).loc main_arg2) (ix2 r (jj t j))) (j : Fin 256) (d : Fin 1024) :
    k0_pay1 (iblk m c 0 t) z (ix2 j d) = result m c (ix2 (jj t j) d) := by
  rw [pay1_apply, result, dWeight_apply]
  refine Finset.sum_congr rfl fun r _ => ?_
  rw [block0, rowsT, hz, mul_comm]

/-- What a point leaves. -/
theorem point (t : Fin cfg0.N) (j : Fin 256) (d : Fin 1024) :
    outsAt0 m c t.val t.isLt (ix2 j d) = result m c (ix2 (jj t j) d) := by
  have ht := points t
  by_cases h0 : t.val < 3
  · rw [outsAt0_A m c t h0 (by omega) (by omega) (by omega) (by omega) (by omega), ← pay_result m c t _ (block1 m c t h0)]
    frame_open
    frame_out
  by_cases h1 : t.val < 5
  · rw [outsAt0_B m c t h0 (by omega) (by omega) (by omega) (by omega) (by omega), ← pay_result m c t _ (block2_low m c t (by omega) h1)]
    frame_open
    frame_out
    rfl
  by_cases h2 : t.val < 7
  · rw [outsAt0_C m c t h0 (by omega) (by omega) (by omega) (by omega) (by omega), ← pay_result m c t _ (block3 m c t (by omega) h2)]
    frame_open
    frame_out
    rfl
  by_cases h3 : t.val < 9
  · rw [outsAt0_D m c t h0 (by omega) (by omega) (by omega) (by omega) (by omega), ← pay_result m c t _ (block4 m c t (by omega) h3)]
    frame_open
    frame_out
    rfl
  by_cases h4 : t.val < 11
  · rw [outsAt0_E m c t h0 (by omega) (by omega) (by omega) (by omega) (by omega), ← pay_result m c t _ (block5 m c t (by omega) h4)]
    frame_open
    frame_out
    rfl
  · rw [outsAt0_F m c t h0 (by omega) (by omega) (by omega) (by omega) (by omega), ← pay_result m c t _ (block2_high m c t (by omega))]
    frame_open
    frame_out
    rfl

theorem place (Y : FVec Ideal S5376x1024 .bf16) (t : Fin cfg0.N) (j : Fin 256) (d : Fin 1024) :
    Y (((cfg0.win 6).blk t).view.emb (ix2 j d)) = Y (ix2 (jj t j) d) := by
  have := points t
  unfold jj
  blk_ext [idx t]

/-- The kernel's array is the reference's. -/
theorem final : (dats m 0 c).arrAt 6 cfg0.N = result m c := by
  refine (dats m 0 c).arrAt_eq_of_covers 6 _ (by decide +kernel) fun t hf y => ?_
  blk_simp
  rw [after0_6]
  idx_vars y
  exact (point m c t y0 y1).trans (place _ t y0 y1).symm

end Cert.Kernel4Ideal.Value

namespace Cert.WGrad

open Idealize.ShloMosaic Idealize.SL.Sem

/-- The weights' gradient: kernel and reference leave the same array, on all arguments. -/
theorem algebraic : Cert.algebraic_Kernel4Ideal_Reference4Ideal (hKernel4Ideal := Cert.Kernel4Ideal.Gen.facts)
    (hReference4Ideal := Cert.Reference4Ideal.Gen.facts) := by
  intro m g m' g' hpre hagree
  refine ⟨_, Cert.Kernel4Ideal.Value.run_blocks m g, ?_⟩
  refine (θ_run Cert.Reference4Ideal.defs _ _).mono (fun r h c => ?_) (Cert.Reference4Ideal.Value.run_named m' g')
  obtain ⟨h0, h1, h2⟩ := hagree c
  obtain ⟨e0, e1⟩ := h c
  rw [h0, h1, h2] at e0
  exact ⟨e0.trans (Cert.Kernel4Ideal.Value.final m c).symm, e1⟩

/-- The reference runs and keeps its arguments. -/
theorem reference_frame : Cert.quiescent_Reference4Ideal (hReference4Ideal := Cert.Reference4Ideal.Gen.facts) := by
  intro m g _
  exact (θ_run Cert.Reference4Ideal.defs _ _).mono
    (fun r h => ⟨fun c => (h c).2, sem_eq_zero_of_no_sems (by decide) r.2⟩) (Cert.Reference4Ideal.Value.run_named m g)

end Cert.WGrad

end

end
-- ==== Proof.lean ====
/- The proof of the claim: the frames of the programs; that the kernels of the attention's and of the merge's gradients and their references leave equal results on finite arguments; that the kernels of the input projection's two gradients and their references leave equal results on all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.ArrayValue
public import proofs.«01_k».proof.Proof.Finite
public import proofs.«01_k».proof.Proof.MergeMath
public import proofs.«01_k».proof.Proof.MergeRef
public import proofs.«01_k».proof.Proof.MergeBlocks
public import proofs.«01_k».proof.Proof.MergePoints
public import proofs.«01_k».proof.Proof.MergeGrad
public import proofs.«01_k».proof.Proof.MergeFinite
public import proofs.«01_k».proof.Proof.MergeFinal
public import proofs.«01_k».proof.Proof.NormGrad
public import proofs.«01_k».proof.Proof.WGrad
public import Idealize.ShloMosaic.Adequacy
public import Idealize.ShloMosaic.Init

@[expose] public section

noncomputable section

namespace Cert.Proof

open Idealize.ShloMosaic Idealize.SL.Sem

/-- On finite arguments the kernel's three arrays are the reference's. -/
theorem finals (m : (ℓ : Loc Cert.KernelIdeal.nD Cert.KernelIdeal.τ Cert.KernelIdeal.sig) → Buf (Elt Ideal) ℓ) [Cert.Pre_finite.Facts]
    (hpre : Cert.Pre_KernelIdeal_finite m) (c : Dev Cert.KernelIdeal.nD) :
    (Cert.KernelIdeal.Gen.dats m 0 c).arrAt 7 Cert.KernelIdeal.cfg0.N =
      Cert.ReferenceIdeal.Value.dQuery (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    ∧ (Cert.KernelIdeal.Gen.dats m 0 c).arrAt 8 Cert.KernelIdeal.cfg0.N =
      Cert.ReferenceIdeal.Value.dKey (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    ∧ (Cert.KernelIdeal.Gen.dats m 0 c).arrAt 9 Cert.KernelIdeal.cfg0.N =
      Cert.ReferenceIdeal.Value.dValue (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) := by
  obtain ⟨hq, hk, hv, hc⟩ := Cert.Finite.real_of_finite _ _ _ _ (hpre c)
  choose Q hQ using hq
  choose K hK using hk
  choose V hV using hv
  choose C hC using hc
  have eq : ∀ r h d, m ((c.tc : Thread Cert.KernelIdeal.nD Cert.KernelIdeal.τ).loc Cert.KernelIdeal.main_arg0) (ix3 r h d) = ((fun r h d => Q (ix3 r h d)) r h d : EReal) := fun r h d => hQ _
  have ek : ∀ s g d, m ((c.tc : Thread Cert.KernelIdeal.nD Cert.KernelIdeal.τ).loc Cert.KernelIdeal.main_arg1) (ix3 s g d) = ((fun s g d => K (ix3 s g d)) s g d : EReal) := fun s g d => hK _
  have ev : ∀ s g d, m ((c.tc : Thread Cert.KernelIdeal.nD Cert.KernelIdeal.τ).loc Cert.KernelIdeal.main_arg2) (ix3 s g d) = ((fun s g d => V (ix3 s g d)) s g d : EReal) := fun s g d => hV _
  have ec : ∀ r l, m ((c.tc : Thread Cert.KernelIdeal.nD Cert.KernelIdeal.τ).loc Cert.KernelIdeal.main_arg3) (ix2 r l) = ((fun r l => C (ix2 r l)) r l : EReal) := fun r l => hC _
  exact ⟨Cert.KernelIdeal.Value.final_dq (Q := fun r h d => Q (ix3 r h d)) (K := fun s g d => K (ix3 s g d)) (V' := fun s g d => V (ix3 s g d)) (C := fun r l => C (ix2 r l)) eq ek ev ec,
    Cert.KernelIdeal.Value.final_dk (Q := fun r h d => Q (ix3 r h d)) (K := fun s g d => K (ix3 s g d)) (V' := fun s g d => V (ix3 s g d)) (C := fun r l => C (ix2 r l)) eq ek ev ec,
    Cert.KernelIdeal.Value.final_dv (Q := fun r h d => Q (ix3 r h d)) (K := fun s g d => K (ix3 s g d)) (C := fun r l => C (ix2 r l)) eq ek ec⟩

theorem algebraic [Cert.Pre_finite.Facts] : Cert.algebraic_KernelIdeal_ReferenceIdeal_pre_finite (hKernelIdeal := Cert.KernelIdeal.Gen.facts)
    (hReferenceIdeal := Cert.ReferenceIdeal.Gen.facts) := by
  intro m g m' g' hpre hagree
  refine ⟨_, _, _, Cert.KernelIdeal.Value.run_blocks m g, ?_⟩
  refine (θ_run Cert.ReferenceIdeal.defs _ _).mono (fun r h c => ?_) (Cert.ReferenceIdeal.Value.run_named m' g')
  obtain ⟨h0, h1, h2, h3⟩ := hagree c
  obtain ⟨f0, f1, f2⟩ := finals m hpre c
  obtain ⟨e0, e1, e2, e3⟩ := h c
  rw [h0, h1, h2, h3] at e0 e1
  rw [h0, h1, h3] at e2
  exact ⟨e0.trans f0.symm, e1.trans f1.symm, e2.trans f2.symm, e3⟩

/-- The reference runs and keeps its arguments. -/
theorem reference_frame : Cert.quiescent_ReferenceIdeal (hReferenceIdeal := Cert.ReferenceIdeal.Gen.facts) := by
  intro m g _
  exact (θ_run Cert.ReferenceIdeal.defs _ _).mono
    (fun r h => ⟨fun c => (h c).2.2.2, sem_eq_zero_of_no_sems (by decide) r.2⟩) (Cert.ReferenceIdeal.Value.run_named m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Finite.facts, Cert.MergeFinite.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  fun m ρ _ => Cert.MergeGrad.reference_frame m ρ trivial, fun m ρ _ => Cert.MergeGrad.reference_frame m ρ trivial,
  fun m ρ _ => Cert.Kernel3.Gen.frame m ρ, fun m ρ _ => Cert.Kernel3Ideal.Gen.frame m ρ, Cert.NormGrad.reference_frame,
  fun m ρ _ => Cert.Kernel4.Gen.frame m ρ, fun m ρ _ => Cert.Kernel4Ideal.Gen.frame m ρ, Cert.WGrad.reference_frame,
  trivial, (haveI := Cert.Finite.facts; algebraic),
  trivial, (haveI := Cert.MergeFinite.facts; Cert.MergeGrad.algebraic), trivial, Cert.NormGrad.algebraic, trivial, Cert.WGrad.algebraic⟩

end Cert.Proof

end
